-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_infinite_logit [hPre_no_infinite_logit : Cert.Pre_no_infinite_logit.Facts] (m : (ℓ : Loc Cert.KernelIdeal.nD Cert.KernelIdeal.τ Cert.KernelIdeal.sig) → Buf (Elt Ideal) ℓ) : Prop :=
  ∀ c : Dev Cert.KernelIdeal.nD,
    (Cert.Pre_no_infinite_logit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_infinite_logit [hPre_no_infinite_logit : Cert.Pre_no_infinite_logit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_infinite_logit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_infinite_logit [hKernelIdeal : Cert.KernelIdeal.Facts] [hPre_no_infinite_logit : Cert.Pre_no_infinite_logit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_infinite_logit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_infinite_logit [hReferenceIdeal : Cert.ReferenceIdeal.Facts] [hPre_no_infinite_logit : Cert.Pre_no_infinite_logit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_infinite_logit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_no_infinite_logit [hKernelIdeal : Cert.KernelIdeal.Facts] [hReferenceIdeal : Cert.ReferenceIdeal.Facts] [hPre_no_infinite_logit : Cert.Pre_no_infinite_logit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_infinite_logit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_infinite_logit : Cert.Pre_no_infinite_logit.Facts),
    quiescent_Kernel (hKernel := hKernel)
    ∧ quiescent_KernelIdeal (hKernelIdeal := hKernelIdeal)
    ∧ quiescent_KernelIdeal_pre_no_infinite_logit (hKernelIdeal := hKernelIdeal) (hPre_no_infinite_logit := hPre_no_infinite_logit)
    ∧ quiescent_ReferenceIdeal (hReferenceIdeal := hReferenceIdeal)
    ∧ quiescent_ReferenceIdeal_pre_no_infinite_logit (hReferenceIdeal := hReferenceIdeal) (hPre_no_infinite_logit := hPre_no_infinite_logit)
    ∧ preserves_Kernel_KernelIdeal
    ∧ algebraic_KernelIdeal_ReferenceIdeal_pre_no_infinite_logit (hKernelIdeal := hKernelIdeal) (hReferenceIdeal := hReferenceIdeal) (hPre_no_infinite_logit := hPre_no_infinite_logit)
-- ==== Pre_no_infinite_logit.lean ====
abbrev S4096x1024 : Shape := ⟨2, ![4096, 1024]⟩
abbrev S16x1024 : Shape := ⟨2, ![16, 1024]⟩
abbrev S1024x16 : Shape := ⟨2, ![1024, 16]⟩
abbrev S4096x16 : Shape := ⟨2, ![4096, 16]⟩
abbrev S_ : Shape := ⟨0, ![]⟩

class Facts : Prop where
  transposes_S16x1024_S1024x16_1_0 : S16x1024.Transposes [1, 0] S1024x16
  bcast_S_S4096x16 : S_.BroadcastsInDim S4096x16 (![] : Fin 0 → Fin S4096x16.rank)
  reducesTo_S4096x16_S_d0_1 : S4096x16.ReducesTo [0, 1] S_
  h_S_ : 0 < S_.numel
  dot_S4096x1024_S1024x16_S4096x16_1_0_0_1_n_n_wf : DotDims.WF S4096x1024 S1024x16 S4096x16 [1] [0] [0] [1] [] []

variable [Facts]

def dot_S4096x1024_S1024x16_S4096x16_1_0_0_1_n_n : DotDims S4096x1024 S1024x16 S4096x16 where
  lhsContracting := [1]
  rhsContracting := [0]
  lhsNonContracting := [0]
  rhsNonContracting := [1]
  lhsBatch := []
  rhsBatch := []
  wf := dot_S4096x1024_S1024x16_S4096x16_1_0_0_1_n_n_wf
def fn {F : FTy → Type} [FloatOps F] (main_arg0 : FVec F S4096x1024 .f32) (main_arg1 : FVec F S16x1024 .f32) : IVec S_ 1 :=
  let main_v0 : FVec F S1024x16 .f32 := (transpose S1024x16 [1, 0] · transposes_S16x1024_S1024x16_1_0) main_arg1
  let main_v1 : FVec F S4096x16 .f32 := (fun l r => Host.dotGeneral dot_S4096x1024_S1024x16_S4096x16_1_0_0_1_n_n none l r) main_arg0 main_v0
  let main_cst : FVec F S_ .f32 := constant S_ .f32 0x7F800000#32
  let main_v2 : FVec F S4096x16 .f32 := broadcastInDim S4096x16 ![] bcast_S_S4096x16 main_cst
  let main_v3 : IVec S4096x16 1 := cmpf .olt main_v1 main_v2
  let main_c : IVec S_ 1 := constantI S_ 1 1#1
  let main_v4 : IVec S_ 1 := (fun x v => Host.reduce IntOp.andi x v reducesTo_S4096x16_S_d0_1 h_S_) main_v3 main_c
  main_v4
-- ==== Kernel.lean ====
abbrev S4096x1024 : Shape := ⟨2, ![4096, 1024]⟩
abbrev S16x1024 : Shape := ⟨2, ![16, 1024]⟩
abbrev S1x1 : Shape := ⟨2, ![1, 1]⟩
abbrev S4096x16x256 : Shape := ⟨3, ![4096, 16, 256]⟩
abbrev S512x1024 : Shape := ⟨2, ![512, 1024]⟩
abbrev S512x16x256 : Shape := ⟨3, ![512, 16, 256]⟩
abbrev S1x16 : Shape := ⟨2, ![1, 16]⟩
abbrev S512x16 : Shape := ⟨2, ![512, 16]⟩
abbrev S512 : Shape := ⟨1, ![512]⟩
abbrev S512x1 : Shape := ⟨2, ![512, 1]⟩
abbrev S512x512 : Shape := ⟨2, ![512, 512]⟩
abbrev S16 : Shape := ⟨1, ![16]⟩
abbrev S512x256 : Shape := ⟨2, ![512, 256]⟩
abbrev S512x16x1 : Shape := ⟨3, ![512, 16, 1]⟩
abbrev S512x1x256 : Shape := ⟨3, ![512, 1, 256]⟩
abbrev S1x1x16 : Shape := ⟨3, ![1, 1, 16]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 9
  | .smem => 1
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S1x1, .f32⟩
  | .hbm, ⟨3, _⟩ => ⟨S4096x16x256, .f32⟩
  | .hbm, ⟨4, _⟩ => ⟨S4096x16x256, .i32⟩
  | .hbm, ⟨5, _⟩ => ⟨S_, .i32⟩
  | .hbm, ⟨6, _⟩ => ⟨S4096x16x256, .i32⟩
  | .hbm, ⟨7, _⟩ => ⟨S4096x16x256, .i1⟩
  | .hbm, ⟨8, _⟩ => ⟨S4096x16x256, .i1⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S512x16x256, .f32⟩
  | .local _ .vmem, ⟨4, _⟩ => ⟨S512x16x256, .f32⟩
  | .local _ .vmem, ⟨5, _⟩ => ⟨S512x16x256, .i32⟩
  | .local _ .vmem, ⟨6, _⟩ => ⟨S512x16x256, .i32⟩
  | .local _ .vmem, ⟨7, _⟩ => ⟨S1x16, .f32⟩
  | .local _ .vmem, ⟨8, _⟩ => ⟨S1x16, .f32⟩
  | .local _ .smem, ⟨0, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v81 : BitVec 1 := Scalar.cmpi .eq arg0 c7_i32
  let v82 : BitVec 32 := Scalar.extui v81
  let c0_i32_32 : BitVec 32 := 0#32
  let v83 : BitVec 1 := Scalar.cmpi .ne v82 c0_i32_32
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x1024 : Shape := ⟨2, ![4096, 1024]⟩
abbrev S16x1024 : Shape := ⟨2, ![16, 1024]⟩
abbrev S1024x16 : Shape := ⟨2, ![1024, 16]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S16 : Shape := ⟨1, ![16]⟩
abbrev S1x256 : Shape := ⟨2, ![1, 256]⟩
abbrev S4096x256 : Shape := ⟨2, ![4096, 256]⟩
abbrev S4096x16x1 : Shape := ⟨3, ![4096, 16, 1]⟩
abbrev S4096x1x256 : Shape := ⟨3, ![4096, 1, 256]⟩
abbrev S4096x16x256 : Shape := ⟨3, ![4096, 16, 256]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S1024x16, .f32⟩
  | .hbm, ⟨3, _⟩ => ⟨S4096x16, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x16, .f32⟩
  | .hbm, ⟨17, _⟩ => ⟨S4096x16, .f32⟩
  | .hbm, ⟨18, _⟩ => ⟨S4096x16, .i32⟩
  | .hbm, ⟨19, _⟩ => ⟨S_, .f32⟩
  | .hbm, ⟨20, _⟩ => ⟨S_, .i32⟩
  | .hbm, ⟨21, _⟩ => ⟨S4096, .f32⟩
  | .hbm, ⟨22, _⟩ => ⟨S4096, .i32⟩
  | .hbm, ⟨23, _⟩ => ⟨S4096x1, .i32⟩
  | .hbm, ⟨24, _⟩ => ⟨S1x16, .i32⟩
  | .hbm, ⟨25, _⟩ => ⟨S4096x16, .i32⟩
  | .hbm, ⟨26, _⟩ => ⟨S4096x16, .i32⟩
  | .hbm, ⟨27, _⟩ => ⟨S4096x16, .i1⟩
  | .hbm, ⟨28, _⟩ => ⟨S4096x16, .i32⟩
  | .hbm, ⟨29, _⟩ => ⟨S_, .i32⟩
  | .hbm, ⟨30, _⟩ => ⟨S_, .i32⟩
  | .hbm, ⟨31, _⟩ => ⟨S4096x16, .i32⟩
  | .hbm, ⟨32, _⟩ => ⟨S_, .i32⟩
  | .hbm, ⟨33, _⟩ => ⟨S4096x16, .i32⟩
  | .hbm, ⟨34, _⟩ => ⟨S4096x16, .i32⟩
  | .hbm, ⟨35, _⟩ => ⟨S_, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S4096x16, .f32⟩
  | .hbm, ⟨41, _⟩ => ⟨S_, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .i32⟩
  | .hbm, ⟨56, _⟩ => ⟨S4096x16, .i32⟩
  | .hbm, ⟨57, _⟩ => ⟨S4096x16, .i1⟩
  | .hbm, ⟨58, _⟩ => ⟨S4096x16, .i32⟩
  | .hbm, ⟨59, _⟩ => ⟨S4096x16, .i32⟩
  | .hbm, ⟨60, _⟩ => ⟨S4096x16, .i32⟩
  | .hbm, ⟨61, _⟩ => ⟨S_, .i32⟩
  | .hbm, ⟨62, _⟩ => ⟨S4096, .i32⟩
  | .hbm, ⟨63, _⟩ => ⟨S4096x16, .f32⟩
  | .hbm, ⟨64, _⟩ => ⟨S4096, .f32⟩
  | .hbm, ⟨65, _⟩ => ⟨S4096x1, .f32⟩
  | .hbm, ⟨66, _⟩ => ⟨S4096x16, .f32⟩
  | .hbm, ⟨67, _⟩ => ⟨S4096x16, .f32⟩
  | .hbm, ⟨68, _⟩ => ⟨S4096x1, .i32⟩
  | .hbm, ⟨69, _⟩ => ⟨S1x256, .i32⟩
  | .hbm, ⟨70, _⟩ => ⟨S4096x256, .i32⟩
  | .hbm, ⟨71, _⟩ => ⟨S4096x256, .i32⟩
  | .hbm, ⟨72, _⟩ => ⟨S4096x256, .i1⟩
  | .hbm, ⟨73, _⟩ => ⟨S4096x256, .f32⟩
  | .hbm, ⟨74, _⟩ => ⟨S4096x16x1, .f32⟩
  | .hbm, ⟨75, _⟩ => ⟨S4096x1x256, .f32⟩
  | .hbm, ⟨76, _⟩ => ⟨S4096x16x256, .f32⟩
  | .hbm, ⟨77, _⟩ => ⟨S4096x16x256, .f32⟩
  | .hbm, ⟨78, _⟩ => ⟨S4096x16x256, .f32⟩
  | .hbm, ⟨79, _⟩ => ⟨S_, .f32⟩
  | .hbm, ⟨80, _⟩ => ⟨S4096x16x256, .f32⟩
  | .hbm, ⟨81, _⟩ => ⟨S4096x16x256, .i1⟩
  | .hbm, ⟨82, _⟩ => ⟨S4096x16x256, .i1⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v13 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v14 : Ref sig .tc := ⟨.hbm, 28, rfl⟩
abbrev main_call2_call0_c : Ref sig .tc := ⟨.hbm, 29, rfl⟩
abbrev main_call2_call0_v0 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_cst_8 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_c_10 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_12 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩

abbrev nD : Nat := 1
abbrev τ : Topo := Topo.v7x

variable {F : FTy → Type} [FloatOps F]
-- ==== Proof.Spec.lean ====
/-
  The mathematics of a top-1 gate, over plain functions: no program is named here.

  For one token with router logits `l : Fin E → EReal`: `rowMax`, the softmax `gate`, and `firstMax`, the first
  position of the maximum. `firstMax_gate`: when no logit is `+∞` the softmax has its first maximum where the logits do.

  For all tokens, with `f r` the expert of token `r` and `G r e` the gate values: `pos` (how many earlier tokens chose
  the same expert), `kept` (the token found room), and the three results `combine`, `dispatch`, `auxLoss`.
-/
module

public import Idealize.ShloMosaic.PureOps.Ideal
public import Idealize.ShloMosaic.Lib.Pointwise.Index
public import Mathlib.Data.EReal.Basic
public import Mathlib.Data.EReal.Operations
public import Mathlib.Data.EReal.Inv

@[expose] public section

noncomputable section

namespace Cert.Gate

open Idealize.ShloMosaic

/-- The router logits: every token times every expert's row of weights. -/
def logit (X : FVec Ideal ⟨2, ![4096, 1024]⟩ .f32) (W : FVec Ideal ⟨2, ![16, 1024]⟩ .f32) (r : Fin 4096) (e : Fin 16) : EReal :=
  ∑ k : Fin 1024, X (ix2 r k) * W (ix2 e k)

/-- The maximum of a row of logits. -/
def rowMax (l : Fin 16 → EReal) : EReal := Finset.univ.sup l

/-- The sum of the exponentials of a row of logits, its maximum subtracted. -/
def expSum (l : Fin 16 → EReal) : EReal := ∑ j, Ideal.exp (l j - rowMax l)

/-- The softmax of a row of logits. -/
def gate (l : Fin 16 → EReal) (e : Fin 16) : EReal := Ideal.div (Ideal.exp (l e - rowMax l)) (expSum l)

/-- `e` is the first position of the maximum of `l`. -/
def IsFirst (l : Fin 16 → EReal) (e : Fin 16) : Prop := (∀ j, l j ≤ l e) ∧ ∀ j, l e ≤ l j → e ≤ j

theorem exists_isFirst (l : Fin 16 → EReal) : ∃ e, IsFirst l e := by
  obtain ⟨a, -, ha⟩ := Finset.exists_max_image Finset.univ l ⟨0, Finset.mem_univ 0⟩
  have hne : (Finset.univ.filter fun e => ∀ j, l j ≤ l e).Nonempty := ⟨a, by simpa using fun j => ha j (Finset.mem_univ j)⟩
  refine ⟨_, (Finset.mem_filter.mp (Finset.min'_mem _ hne)).2, fun j hj => Finset.min'_le _ _ ?_⟩
  have h := (Finset.mem_filter.mp (Finset.min'_mem _ hne)).2
  exact Finset.mem_filter.mpr ⟨Finset.mem_univ j, fun i => (h i).trans hj⟩

/-- The first position of the maximum of a row. -/
def firstMax (l : Fin 16 → EReal) : Fin 16 := (exists_isFirst l).choose

theorem firstMax_isFirst (l : Fin 16 → EReal) : IsFirst l (firstMax l) := (exists_isFirst l).choose_spec

/-- The first position of the maximum is the only position that is one. -/
theorem IsFirst.eq {l : Fin 16 → EReal} {a b : Fin 16} (ha : IsFirst l a) (hb : IsFirst l b) : a = b :=
  le_antisymm (ha.2 b (hb.1 a)) (hb.2 a (ha.1 b))

theorem firstMax_eq {l : Fin 16 → EReal} {e : Fin 16} (h : IsFirst l e) : firstMax l = e := (firstMax_isFirst l).eq h

theorem le_rowMax (l : Fin 16 → EReal) (e : Fin 16) : l e ≤ rowMax l := Finset.le_sup (Finset.mem_univ e)

theorem rowMax_eq_firstMax (l : Fin 16 → EReal) : rowMax l = l (firstMax l) :=
  le_antisymm (Finset.sup_le fun j _ => (firstMax_isFirst l).1 j) (le_rowMax l _)

/-- Two rows ordered alike have their first maximum at the same position. -/
theorem firstMax_congr {l k : Fin 16 → EReal} (h : ∀ i j, k i ≤ k j ↔ l i ≤ l j) : firstMax k = firstMax l :=
  firstMax_eq ⟨fun j => (h _ _).mpr ((firstMax_isFirst l).1 j), fun j hj => (firstMax_isFirst l).2 j ((h _ _).mp hj)⟩

/-- A sum of real numbers, taken among the extended reals. -/
theorem sum_coe {ι : Type} (s : Finset ι) (y : ι → ℝ) : ∑ j ∈ s, (y j : EReal) = ((∑ j ∈ s, y j : ℝ) : EReal) := by
  classical
  induction s using Finset.induction_on with
  | empty => simp
  | insert a s ha ih => rw [Finset.sum_insert ha, Finset.sum_insert ha, ih, EReal.coe_add]

/-- The exponential of a logit less a real maximum, as a real number. -/
theorem exp_sub_real {x : EReal} (hx : x ≠ ⊤) (μ : ℝ) : ∃ y : ℝ, 0 ≤ y ∧ Ideal.exp (x - μ) = (y : EReal) := by
  induction x using EReal.rec with
  | bot => exact ⟨0, le_rfl, by rw [EReal.bot_sub]; rfl⟩
  | top => exact absurd rfl hx
  | coe x => exact ⟨Real.exp (x - μ), (Real.exp_pos _).le, by rw [← EReal.coe_sub]; rfl⟩

/-- Under a real maximum the exponentials are ordered as the logits are. -/
theorem exp_sub_le_iff {x y : EReal} (hx : x ≠ ⊤) (hy : y ≠ ⊤) (μ : ℝ) :
    Ideal.exp (x - μ) ≤ Ideal.exp (y - μ) ↔ x ≤ y := by
  have hb : Ideal.exp ((⊥ : EReal) - (μ : EReal)) = 0 := by rw [EReal.bot_sub]; rfl
  have hr : ∀ z : ℝ, Ideal.exp ((z : EReal) - (μ : EReal)) = ((Real.exp (z - μ) : ℝ) : EReal) := fun z => by
    rw [← EReal.coe_sub]; rfl
  induction x using EReal.rec with
  | top => exact absurd rfl hx
  | bot =>
    refine iff_of_true ?_ bot_le
    obtain ⟨z, hz, e⟩ := exp_sub_real hy μ
    rw [hb, e]; exact_mod_cast hz
  | coe x =>
    induction y using EReal.rec with
    | top => exact absurd rfl hy
    | bot =>
      rw [hb, hr]
      refine iff_of_false (fun h => absurd (Real.exp_pos (x - μ)) (not_lt.mpr (by exact_mod_cast h))) ?_
      simp
    | coe y => rw [hr, hr, EReal.coe_le_coe_iff, Real.exp_le_exp, EReal.coe_le_coe_iff, sub_le_sub_iff_right]

/-- A row without `+∞` whose maximum is real: the softmax's denominator is a positive real number. -/
theorem expSum_pos {l : Fin 16 → EReal} (h : ∀ e, l e ≠ ⊤) {μ : ℝ} (hμ : rowMax l = (μ : EReal)) :
    ∃ s : ℝ, 0 < s ∧ expSum l = (s : EReal) := by
  choose y hy e using fun j => exp_sub_real (h j) μ
  refine ⟨∑ j, y j, ?_, by unfold expSum; rw [hμ]; simp only [e]; exact sum_coe _ _⟩
  have h1 : y (firstMax l) = 1 := by
    have := e (firstMax l)
    rw [← rowMax_eq_firstMax l, hμ, ← EReal.coe_sub, sub_self] at this
    have h2 : ((Real.exp 0 : ℝ) : EReal) = (y (firstMax l) : EReal) := this
    rw [Real.exp_zero] at h2
    exact_mod_cast h2.symm
  exact lt_of_lt_of_le (by rw [h1]; exact one_pos) (Finset.single_le_sum (fun j _ => hy j) (Finset.mem_univ (firstMax l)))

/-- When no logit is `+∞` the softmax orders the experts as the logits do. -/
theorem gate_le_iff {l : Fin 16 → EReal} (h : ∀ e, l e ≠ ⊤) (i j : Fin 16) : gate l i ≤ gate l j ↔ l i ≤ l j := by
  by_cases hb : rowMax l = ⊥
  · have hl : ∀ e, l e = ⊥ := fun e => le_bot_iff.mp (hb ▸ le_rowMax l e)
    unfold gate; rw [hl i, hl j]; exact iff_of_true le_rfl le_rfl
  · have ht : rowMax l ≠ ⊤ := by rw [rowMax_eq_firstMax]; exact h _
    obtain ⟨μ, hμ⟩ : ∃ μ : ℝ, rowMax l = (μ : EReal) := ⟨_, (EReal.coe_toReal ht hb).symm⟩
    obtain ⟨s, hs, es⟩ := expSum_pos h hμ
    have hs0 : (s : EReal) ≠ 0 := by exact_mod_cast hs.ne'
    unfold gate Ideal.div
    rw [es, if_neg hs0, if_neg hs0, hμ, ← exp_sub_le_iff (h i) (h j) μ]
    obtain ⟨a, ha, ea⟩ := exp_sub_real (h i) μ
    obtain ⟨b, hb', eb⟩ := exp_sub_real (h j) μ
    rw [ea, eb, ← EReal.coe_inv, ← EReal.coe_mul, ← EReal.coe_mul, EReal.coe_le_coe_iff, EReal.coe_le_coe_iff]
    exact mul_le_mul_iff_left₀ (inv_pos.mpr hs)

/-- When no logit is `+∞` the softmax has its first maximum where the logits have theirs. -/
theorem firstMax_gate {l : Fin 16 → EReal} (h : ∀ e, l e ≠ ⊤) : firstMax (gate l) = firstMax l :=
  firstMax_congr (gate_le_iff h)

/-! ## All the tokens -/

/-- A truth value as a number, 0 or 1. -/
def ind (p : Prop) [Decidable p] : EReal := if p then 1 else 0

/-- The sum of the entries before position `n`. -/
def psum {M : Type} [AddCommMonoid M] {N : ℕ} (a : Fin N → M) (n : ℕ) : M := ∑ r ∈ Finset.univ.filter (fun r : Fin N => r.val < n), a r

/-- How many of the first `n` tokens chose expert `e`. -/
def cnt {N : ℕ} (f : Fin N → Fin 16) (e : Fin 16) (n : ℕ) : ℕ := psum (fun r => if f r = e then 1 else 0) n

/-- How many tokens before `r` chose `r`'s expert. -/
def pos (f : Fin 4096 → Fin 16) (r : Fin 4096) : ℕ := cnt f (f r) r.val

/-- Token `r` chose expert `e` and is among the first 256 that did. -/
def kept (f : Fin 4096 → Fin 16) (r : Fin 4096) (e : Fin 16) : Prop := f r = e ∧ pos f r < 256

instance (f : Fin 4096 → Fin 16) (r : Fin 4096) (e : Fin 16) : Decidable (kept f r e) :=
  inferInstanceAs (Decidable (_ ∧ _))

/-- The slot of token `r` in its expert's buffer; 0 when it found no room. -/
def slot (f : Fin 4096 → Fin 16) (r : Fin 4096) : ℕ := if pos f r < 256 then pos f r else 0

/-- The gate value of the expert token `r` was sent to; 0 when it found no room. -/
def gateSum (f : Fin 4096 → Fin 16) (G : Fin 4096 → Fin 16 → EReal) (r : Fin 4096) : EReal :=
  ∑ e, G r e * ind (kept f r e)

/-- The second result: the weight of token `r` in slot `c` of expert `e`. -/
def combine (f : Fin 4096 → Fin 16) (G : Fin 4096 → Fin 16 → EReal) (r : Fin 4096) (e : Fin 16) (c : Fin 256) : EReal :=
  (gateSum f G r * ind (kept f r e)) * ind (c.val = slot f r)

/-- The third result: where the weight is not zero. -/
def dispatch (f : Fin 4096 → Fin 16) (G : Fin 4096 → Fin 16 → EReal) (r : Fin 4096) (e : Fin 16) (c : Fin 256) : BitVec 1 :=
  if combine f G r e c ≠ 0 then 1#1 else 0#1

/-- The first result: sixteen times the sum over the experts of mean gate value times share of the tokens. -/
def auxLoss (f : Fin 4096 → Fin 16) (G : Fin 4096 → Fin 16 → EReal) : EReal :=
  (∑ e, Ideal.div (∑ r, G r e) ((4096 : ℝ) : EReal) * Ideal.div ((cnt f e 4096 : ℝ) : EReal) ((4096 : ℝ) : EReal)) * ((16 : ℝ) : EReal)

section Sums

variable {M : Type} [AddCommMonoid M] {N : ℕ}

theorem psum_zero (a : Fin N → M) : psum a 0 = 0 := by simp [psum]

/-- One more position adds one more entry. -/
theorem psum_succ (a : Fin N → M) (r : Fin N) : psum a (r.val + 1) = psum a r.val + a r := by
  unfold psum
  rw [show (Finset.univ.filter fun q : Fin N => q.val < r.val + 1) = insert r (Finset.univ.filter fun q : Fin N => q.val < r.val) by
    ext q
    simp only [Finset.mem_filter, Finset.mem_univ, true_and, Finset.mem_insert, Nat.lt_succ_iff_lt_or_eq, Fin.ext_iff]
    exact or_comm]
  rw [Finset.sum_insert (by simp), add_comm]

/-- Every entry lies before position `N`. -/
theorem psum_all (a : Fin N → M) : psum a N = ∑ r, a r := by
  unfold psum; rw [Finset.filter_true_of_mem fun r _ => r.isLt]

/-- The first `k + n` entries are the first `k` and the first `n` of those from position `k` on. -/
theorem psum_add {K : ℕ} (a : Fin N → M) (b : Fin K → M) (k : ℕ) (hk : k + K ≤ N) (hab : ∀ q : Fin K, b q = a ⟨k + q.val, by omega⟩)
    (n : ℕ) (hn : n ≤ K) : psum a (k + n) = psum a k + psum b n := by
  induction n with
  | zero => simp [psum_zero]
  | succ n ih =>
    have h1 := psum_succ a ⟨k + n, by omega⟩
    have h2 := psum_succ b ⟨n, by omega⟩
    rw [hab] at h2
    rw [← Nat.add_assoc, show k + n + 1 = (⟨k + n, by omega⟩ : Fin N).val + 1 from rfl, h1, show n + 1 = (⟨n, by omega⟩ : Fin K).val + 1 from rfl, h2,
      ← add_assoc, ← ih (by omega)]

/-- The sum of the entries before a position as a sum over all of them. -/
theorem psum_eq_sum_ite (a : Fin N → M) (n : ℕ) : psum a n = ∑ r, if r.val < n then a r else 0 := by
  unfold psum; rw [Finset.sum_filter]

end Sums

/-- A count as a number is the sum of the indicators. -/
theorem cnt_cast {N : ℕ} (f : Fin N → Fin 16) (e : Fin 16) (n : ℕ) : ((cnt f e n : ℝ) : EReal) = psum (fun r => ind (f r = e)) n := by
  unfold cnt psum ind
  rw [Nat.cast_sum, ← sum_coe]
  refine Finset.sum_congr rfl fun r _ => ?_
  by_cases h : f r = e <;> simp [h]

/-- A token adds one to its own expert's count. -/
theorem cnt_own (f : Fin 4096 → Fin 16) (r : Fin 4096) : cnt f (f r) (r.val + 1) = pos f r + 1 := by
  unfold pos cnt; rw [psum_succ, if_pos rfl]

theorem cnt_le {N : ℕ} (f : Fin N → Fin 16) (e : Fin 16) (n : ℕ) : cnt f e n ≤ N := by
  unfold cnt psum
  rw [← Finset.card_filter]
  exact (Finset.card_le_univ _).trans (le_of_eq ((Finset.card_univ).trans (Fintype.card_fin N))) |>.trans' (Finset.card_le_card (Finset.subset_univ _))

theorem slot_lt (f : Fin 4096 → Fin 16) (r : Fin 4096) : slot f r < 256 := by unfold slot; split_ifs <;> omega

end Cert.Gate
-- ==== Proof.Words.lean ====
/-
  Small integer words and truth values read as numbers: the facts about 32-bit words the gate's two programs use.
-/
module

public import proofs.«01_k».proof.Proof.Spec
public import Idealize.ShloMosaic.PureOps.Ideal
public import Idealize.ShloMosaic.PureOps.Ideal.Laws

@[expose] public section

noncomputable section

namespace Cert.Gate

open Idealize.ShloMosaic

/-! ## The float literals -/

theorem ofBits_neg_inf : Ideal.ofBits .f32 0xFF800000#32 = ⊥ := by simp [Ideal.ofBits, Ideal.ieee]

theorem ofBits_inf : Ideal.ofBits .f32 0x7F800000#32 = ⊤ := by simp [Ideal.ofBits, Ideal.ieee]

theorem ofBits_4096 : Ideal.ofBits .f32 0x45800000#32 = ((4096 : ℝ) : EReal) := by
  simp [Ideal.ofBits, Ideal.ieee]; rw [← EReal.coe_mul]; norm_num

theorem ofBits_16 : Ideal.ofBits .f32 0x41800000#32 = ((16 : ℝ) : EReal) := by
  simp [Ideal.ofBits, Ideal.ieee]; rw [← EReal.coe_mul]; norm_num

theorem ofBits_256 : Ideal.ofBits .f32 0x43800000#32 = ((256 : ℝ) : EReal) := by
  simp [Ideal.ofBits, Ideal.ieee]; rw [← EReal.coe_mul]; norm_num

/-! ## Words -/

/-- The 32-bit word of a natural number below 2^31, read signed. -/
theorem toInt_small {n : ℕ} (h : n < 2 ^ 31) : (BitVec.ofNat 32 n).toInt = n := by
  have hn : (BitVec.ofNat 32 n).toNat = n := by rw [BitVec.toNat_ofNat]; exact Nat.mod_eq_of_lt (by omega)
  rw [BitVec.toInt_eq_toNat_of_lt (by rw [hn]; omega), hn]

theorem word_beq {a b : ℕ} (ha : a < 2 ^ 31) (hb : b < 2 ^ 31) : (BitVec.ofNat 32 a == BitVec.ofNat 32 b) = decide (a = b) := by
  rw [Bool.beq_eq_decide_eq]
  refine decide_eq_decide.mpr ⟨fun h => ?_, fun h => by rw [h]⟩
  have := congrArg BitVec.toInt h
  rw [toInt_small ha, toInt_small hb] at this
  exact_mod_cast this

theorem cmpi_eq {a b : ℕ} (ha : a < 2 ^ 31) (hb : b < 2 ^ 31) :
    IntOp.cmpi .eq (BitVec.ofNat 32 a) (BitVec.ofNat 32 b) = BitVec.ofBool (decide (a = b)) := by
  unfold IntOp.cmpi; rw [word_beq ha hb]

theorem cmpi_sge {a b : ℕ} (ha : a < 2 ^ 31) (hb : b < 2 ^ 31) :
    IntOp.cmpi .sge (BitVec.ofNat 32 a) (BitVec.ofNat 32 b) = BitVec.ofBool (decide (b ≤ a)) := by
  unfold IntOp.cmpi BitVec.sle
  simp only [toInt_small ha, toInt_small hb, Nat.cast_le]

/-- A truth value widened to a word. -/
theorem setWidth_ofBool (p : Prop) [Decidable p] : BitVec.setWidth 32 (BitVec.ofBool (decide p)) = BitVec.ofNat 32 (if p then 1 else 0) := by
  by_cases h : p <;> simp [h]

/-- A truth value widened to a word and read as a number is its indicator. -/
theorem sitofp_bool (p : Prop) [Decidable p] :
    FloatOps.sitofp (F := Ideal) .f32 (BitVec.setWidth 32 (BitVec.ofBool (decide p))) = ind p := by
  rw [setWidth_ofBool]
  show (((BitVec.ofNat 32 (if p then 1 else 0)).toInt : ℝ) : EReal) = ind p
  unfold ind
  split_ifs <;> rw [toInt_small (by norm_num)] <;> simp

/-- A natural number below 2^31, as a real number, converted to a word. -/
theorem fptosi_nat {n : ℕ} (h : n < 2 ^ 31) : FloatOps.fptosi (F := Ideal) (φ := .f32) 32 (((n : ℝ)) : EReal) = BitVec.ofNat 32 n := by
  show BitVec.ofInt 32 (Ideal.toIntClamped _ _ ((n : ℝ) : EReal)) = _
  rw [Ideal.toIntClamped_coe, if_pos (Nat.cast_nonneg n), Int.floor_natCast]
  rw [min_eq_right (by norm_num; omega), max_eq_right (by norm_num)]
  exact BitVec.ofInt_natCast 32 n

theorem minsi_toInt (a b : BitVec 32) : (IntOp.minsi a b).toInt = min a.toInt b.toInt := by
  unfold IntOp.minsi BitVec.slt
  by_cases h : a.toInt < b.toInt
  · simp [h, min_eq_left h.le]
  · simp [h, min_eq_right (not_lt.mp h)]

/-- The smallest position at which a row has its maximum, computed as a minimum of words, is the first maximum. -/
theorem fold_first (l : Fin 16 → EReal) :
    Finset.fold IntOp.minsi 2147483647#32 (fun x : Fin 16 => if l x = rowMax l then BitVec.ofNat 32 x.val else 16#32) Finset.univ
      = BitVec.ofNat 32 (firstMax l).val := by
  apply BitVec.eq_of_toInt_eq
  have hom : ∀ s : Finset (Fin 16), ∀ g : Fin 16 → BitVec 32,
      (Finset.fold IntOp.minsi 2147483647#32 g s).toInt = Finset.fold min 2147483647 (fun x => (g x).toInt) s := fun s g =>
    (Finset.fold_hom (m := BitVec.toInt) (op' := min) fun x y => minsi_toInt x y).symm
  rw [hom, toInt_small (by omega)]
  have hg : ∀ x : Fin 16, (if l x = rowMax l then BitVec.ofNat 32 x.val else 16#32).toInt = if l x = rowMax l then (x.val : ℤ) else 16 := fun x => by
    split_ifs
    · exact toInt_small (by omega)
    · rfl
  simp only [hg]
  have hf := firstMax_isFirst l
  refine le_antisymm (Finset.fold_min_le _ |>.mpr (.inr ⟨firstMax l, Finset.mem_univ _, by rw [if_pos (rowMax_eq_firstMax l).symm]⟩)) ?_
  refine Finset.le_fold_min _ |>.mpr ⟨by omega, fun x _ => ?_⟩
  split_ifs with h
  · exact_mod_cast hf.2 x (by rw [h]; exact le_rowMax l _)
  · omega

/-- A row's maximum, computed as a fold from `-∞`. -/
theorem fold_max (l : Fin 16 → EReal) : Finset.fold max ⊥ l Finset.univ = rowMax l := rfl

theorem ind_true {p : Prop} [Decidable p] (h : p) : ind p = 1 := if_pos h

theorem ind_false {p : Prop} [Decidable p] (h : ¬p) : ind p = 0 := if_neg h

theorem ind_mul (p q : Prop) [Decidable p] [Decidable q] : ind p * ind q = ind (p ∧ q) := by
  unfold ind; by_cases hp : p <;> by_cases hq : q <;> simp [hp, hq]

end Cert.Gate
-- ==== Proof.KernelBlock.lean ====
/-
  What the kernel computes at one grid point, entry by entry: each stored or carried vector of the body, read at an
  index, over the point's block `x` of tokens, the router's weights `w` and the two carried rows.
-/
module

public import proofs.«01_k».proof.Proof.Gen.KernelIdeal
public import proofs.«01_k».proof.Proof.Gen.KernelIdeal.Skeleton
public import proofs.«01_k».proof.Proof.Words
public import Idealize.ShloMosaic.Lib.Pointwise

@[expose] public section

set_option maxRecDepth 16384

noncomputable section

namespace Cert.Block

open Idealize.ShloMosaic Idealize.ShloMosaic.TcCoe Idealize.SL.Sem
open Cert.KernelIdeal Cert.KernelIdeal.Gen Cert.Gate

/-- The logits of the block: token times expert, summed over the features. -/
theorem logits_apply (x : FVec Ideal S512x1024 .f32) (w : FVec Ideal S16x1024 .f32) (p : Fin 512) (e : Fin 16) :
    k0_pay4 (F := Ideal) x w (ix2 p e) = ∑ k : Fin 1024, x (ix2 p k) * w (ix2 e k) := by
  pointwise [k0_pay4]

/-- The row maxima are the maxima of the logits' rows. -/
theorem rowMax_apply (x : FVec Ideal S512x1024 .f32) (w : FVec Ideal S16x1024 .f32) (p : Fin 512) :
    k0_pay5 (F := Ideal) x w (ix2 p 0) = rowMax fun e => k0_pay4 (F := Ideal) x w (ix2 p e) := by
  pointwise [k0_pay5]
  rw [ofBits_neg_inf, fold_max]

/-- The gates are the softmax of the logits' rows. -/
theorem gates_apply (x : FVec Ideal S512x1024 .f32) (w : FVec Ideal S16x1024 .f32) (p : Fin 512) (e : Fin 16) :
    k0_pay6 (F := Ideal) x w (ix2 p e) = gate (fun e => k0_pay4 (F := Ideal) x w (ix2 p e)) e := by
  pointwise [k0_pay6, rowMax_apply]
  rfl

/-- The mask is one at the first maximum of each row of logits and zero elsewhere. -/
theorem mask_apply (x : FVec Ideal S512x1024 .f32) (w : FVec Ideal S16x1024 .f32) (p : Fin 512) (e : Fin 16) :
    k0_pay7 (F := Ideal) x w (ix2 p e) = ind (firstMax (fun e => k0_pay4 (F := Ideal) x w (ix2 p e)) = e) := by
  pointwise [k0_pay7, rowMax_apply]
  rw [fold_first (fun e => k0_pay4 (F := Ideal) x w (ix2 p e)), cmpi_eq (by omega) (by omega), sitofp_bool]
  exact if_congr (by rw [eq_comm, Fin.ext_iff]) rfl rfl

/-- The locations: the mask summed down its column up to the row, less one, plus the carried count. -/
theorem locations_apply (x : FVec Ideal S512x1024 .f32) (w : FVec Ideal S16x1024 .f32) (s : FVec Ideal S1x16 .f32) (p : Fin 512) (e : Fin 16) :
    k0_pay8 (F := Ideal) x w s (ix2 p e)
      = psum (fun q : Fin 512 => k0_pay7 (F := Ideal) x w (ix2 q e)) (p.val + 1) - 1 + s (ix2 0 e) := by
  pointwise [k0_pay8]
  rw [psum_eq_sum_ite]
  congr 2
  refine Finset.sum_congr rfl fun q _ => ?_
  rw [cmpi_sge (by omega) (by omega), sitofp_bool]
  unfold ind
  by_cases h : q.val ≤ p.val
  · rw [if_pos h, if_pos (by omega), one_mul]
  · rw [if_neg h, if_neg (by omega), zero_mul]

/-- The block's counts: the mask's column sums. -/
theorem blockCount_apply (x : FVec Ideal S512x1024 .f32) (w : FVec Ideal S16x1024 .f32) (e : Fin 16) :
    k0_pay9 (F := Ideal) x w (ix2 0 e) = ∑ q : Fin 512, k0_pay7 (F := Ideal) x w (ix2 q e) := by
  pointwise [k0_pay9]

/-- The carried counts after the point. -/
theorem newCount_apply (a b : FVec Ideal S1x16 .f32) (e : Fin 16) :
    k0_pay10 (F := Ideal) a b (ix2 0 e) = a (ix2 0 e) + b (ix2 0 e) := by
  pointwise [k0_pay10]

/-- The carried gate sums after the point. -/
theorem newSum_apply (g : FVec Ideal S512x16 .f32) (b : FVec Ideal S1x16 .f32) (e : Fin 16) :
    k0_pay11 (F := Ideal) g b (ix2 0 e) = b (ix2 0 e) + ∑ q : Fin 512, g (ix2 q e) := by
  pointwise [k0_pay11]

/-- The carried rows start at zero. -/
theorem zeroCount_apply (j : S1x16.Idx) : k0_pay2 (F := Ideal) j = 0 := by pointwise [k0_pay2]

theorem zeroSum_apply (j : S1x16.Idx) : k0_pay3 (F := Ideal) j = 0 := by pointwise [k0_pay3]

/-- A mask entry times the test "location below 256", for the location of a token: kept or not. -/
theorem keep_entry (f : Fin 4096 → Fin 16) (r : Fin 4096) (e : Fin 16) (l : EReal) (hl : l = (((cnt f e (r.val + 1) : ℝ) - 1 : ℝ) : EReal)) :
    ind (f r = e) * ind (l < ((256 : ℝ) : EReal)) = ind (kept f r e) := by
  rw [ind_mul]
  refine if_congr (and_congr_right fun h => ?_) rfl rfl
  subst h
  rw [hl, cnt_own, EReal.coe_lt_coe_iff]
  push_cast
  rw [add_sub_cancel_right]
  exact_mod_cast Iff.rfl

/-- The locations of a row times "kept", summed: the token's slot. -/
theorem slot_sum (f : Fin 4096 → Fin 16) (r : Fin 4096) (l : Fin 16 → EReal)
    (hl : ∀ e, l e = (((cnt f e (r.val + 1) : ℝ) - 1 : ℝ) : EReal)) :
    ∑ e, l e * ind (kept f r e) = ((slot f r : ℝ) : EReal) := by
  rw [Finset.sum_eq_single (f r) (fun e _ h => by rw [ind_false fun h' : kept f r e => h h'.1.symm, mul_zero])
    fun h => absurd (Finset.mem_univ _) h, hl, cnt_own]
  unfold slot
  by_cases h : pos f r < 256
  · rw [ind_true (show kept f r (f r) from ⟨rfl, h⟩), if_pos h, mul_one, Nat.cast_succ, add_sub_cancel_right]
  · rw [ind_false fun h' : kept f r (f r) => h h'.2, if_neg h, mul_zero]; simp

/-- The stored weights: from the gates `G r`, the mask of `r`'s expert and the locations of token `r` in row `p`. -/
theorem combine_apply (g m l : FVec Ideal S512x16 .f32) (f : Fin 4096 → Fin 16) (G : Fin 4096 → Fin 16 → EReal) (r : Fin 4096) (p : Fin 512)
    (hg : ∀ e, g (ix2 p e) = G r e) (hm : ∀ e, m (ix2 p e) = ind (f r = e))
    (hl : ∀ e, l (ix2 p e) = (((cnt f e (r.val + 1) : ℝ) - 1 : ℝ) : EReal)) (e : Fin 16) (c : Fin 256) :
    k0_pay12 (F := Ideal) g m l (ix3 p e c) = combine f G r e c := by
  pointwise [k0_pay12]
  simp only [ofBits_256, sitofp_bool, hg, hm, keep_entry f r _ _ (hl _)]
  rw [slot_sum f r _ hl]
  have hs := slot_lt f r
  rw [fptosi_nat (by omega), cmpi_eq (by omega) (by omega), sitofp_bool]
  rfl

/-- The stored mask: one where the stored weight is not zero, as a word. -/
theorem dispatch_apply (g m l : FVec Ideal S512x16 .f32) (p : Fin 512) (e : Fin 16) (c : Fin 256) :
    k0_pay13 (F := Ideal) g m l (ix3 p e c) = BitVec.setWidth 32 (BitVec.ofBool (decide (k0_pay12 (F := Ideal) g m l (ix3 p e c) ≠ 0))) := by
  pointwise [k0_pay13]

/-- The stored loss, from the gate sums `a` and the counts `b`. -/
theorem loss_eq (a b : FVec Ideal S1x16 .f32) :
    k0_pay1 (F := Ideal) a b
      = (∑ e, Ideal.div (a (ix2 0 e)) ((4096 : ℝ) : EReal) * Ideal.div (b (ix2 0 e)) ((4096 : ℝ) : EReal)) * ((16 : ℝ) : EReal) := by
  pointwise [k0_pay1]
  rw [ofBits_4096, ofBits_16]
  simp

end Cert.Block
-- ==== Proof.KernelPoint.lean ====
module

public import proofs.«01_k».proof.Proof.Gen.KernelIdeal.Frame
public import proofs.«01_k».proof.Proof.KernelBlock
public import Idealize.ShloMosaic.Lib.Pipeline.ValueKit
public import Idealize.ShloMosaic.Lib.Pipeline.ReadBack

/-! # What the kernel has computed after each grid point

The grid's point `t` works on the tokens `512 t, …, 512 t + 511`. The two scratch rows carry, from point to point,
how many tokens have chosen each expert and the sum of each expert's gates. Here: the blocks a point reads, and by
induction over the points the contents of the scratch rows; from them the location of every token within its expert's
queue, and the three output blocks of a point. -/

@[expose] public section

set_option maxRecDepth 16384

noncomputable section

namespace Cert.Point

open Idealize.ShloMosaic Idealize.ShloMosaic.TcCoe Idealize.SL.Sem
open Cert.KernelIdeal Cert.KernelIdeal.Gen Cert.Gate Cert.Block

/-- The token of row `p` of the block of point `t`. -/
def row (t : Fin cfg0.N) (p : Fin 512) : Fin 4096 := ⟨512 * t.val + p.val, by have h : t.val < 8 := t.isLt; omega⟩

/-! ## One block, for any tokens and carried rows -/

section Block

variable (L : Fin 4096 → Fin 16 → EReal) (t : Fin cfg0.N) (x : FVec Ideal S512x1024 .f32) (w : FVec Ideal S16x1024 .f32)
  (hx : ∀ p e, k0_pay4 (F := Ideal) x w (ix2 p e) = L (row t p) e)
include hx

/-- The block's gates are the gates of its tokens. -/
theorem gates_row (p : Fin 512) (e : Fin 16) : k0_pay6 (F := Ideal) x w (ix2 p e) = gate (L (row t p)) e := by
  rw [gates_apply]; simp only [hx]

/-- The block's mask marks the choices of its tokens. -/
theorem mask_row (p : Fin 512) (e : Fin 16) : k0_pay7 (F := Ideal) x w (ix2 p e) = ind (firstMax (L (row t p)) = e) := by
  rw [mask_apply]; simp only [hx]

/-- A point's counts, from the counts of the points before it. -/
theorem count_step (s : FVec Ideal S1x16 .f32) (e : Fin 16)
    (hs : s (ix2 0 e) = psum (fun r => ind (firstMax (L r) = e)) (512 * t.val)) :
    k0_pay10 (F := Ideal) s (k0_pay9 (F := Ideal) x w) (ix2 0 e) = psum (fun r => ind (firstMax (L r) = e)) (512 * t.val + 512) := by
  have h : t.val < 8 := t.isLt
  rw [newCount_apply, blockCount_apply, hs,
    psum_add _ (fun q : Fin 512 => k0_pay7 (F := Ideal) x w (ix2 q e)) (512 * t.val) (by omega) (fun q => mask_row L t x w hx q e) 512 le_rfl,
    psum_all]

/-- A point's gate sums, from the gate sums of the points before it. -/
theorem sum_step (s : FVec Ideal S1x16 .f32) (e : Fin 16) (hs : s (ix2 0 e) = psum (fun r => gate (L r) e) (512 * t.val)) :
    k0_pay11 (F := Ideal) (k0_pay6 (F := Ideal) x w) s (ix2 0 e) = psum (fun r => gate (L r) e) (512 * t.val + 512) := by
  have h : t.val < 8 := t.isLt
  rw [newSum_apply, hs,
    psum_add _ (fun q : Fin 512 => k0_pay6 (F := Ideal) x w (ix2 q e)) (512 * t.val) (by omega) (fun q => gates_row L t x w hx q e) 512 le_rfl,
    psum_all]

/-- A token's location at an expert: how many tokens up to it and with it chose that expert, less one. -/
theorem location_row (s : FVec Ideal S1x16 .f32) (p : Fin 512) (e : Fin 16)
    (hs : s (ix2 0 e) = psum (fun r => ind (firstMax (L r) = e)) (512 * t.val)) :
    k0_pay8 (F := Ideal) x w s (ix2 p e) = (((cnt (fun r => firstMax (L r)) e ((row t p).val + 1) : ℝ) - 1 : ℝ) : EReal) := by
  have h : t.val < 8 := t.isLt
  rw [locations_apply, hs, EReal.coe_sub, cnt_cast, show (row t p).val + 1 = 512 * t.val + (p.val + 1) by simp [row]; omega,
    psum_add _ (fun q : Fin 512 => k0_pay7 (F := Ideal) x w (ix2 q e)) (512 * t.val) (by omega) (fun q => mask_row L t x w hx q e) (p.val + 1)
      (by omega), EReal.coe_one, sub_eq_add_neg, sub_eq_add_neg]
  exact (add_comm (_ : EReal) _).trans (add_assoc _ _ _).symm

/-- A point's combine weights. -/
theorem combine_row (s : FVec Ideal S1x16 .f32) (hs : ∀ e, s (ix2 0 e) = psum (fun r => ind (firstMax (L r) = e)) (512 * t.val))
    (p : Fin 512) (e : Fin 16) (c : Fin 256) :
    k0_pay12 (F := Ideal) (k0_pay6 (F := Ideal) x w) (k0_pay7 (F := Ideal) x w) (k0_pay8 (F := Ideal) x w s) (ix3 p e c)
      = combine (fun r => firstMax (L r)) (fun r => gate (L r)) (row t p) e c :=
  combine_apply _ _ _ _ _ _ _ (fun e => gates_row L t x w hx p e) (fun e => mask_row L t x w hx p e)
    (fun e => location_row L t x w hx s p e (hs e)) e c

/-- A point's dispatch words. -/
theorem dispatch_row (s : FVec Ideal S1x16 .f32) (hs : ∀ e, s (ix2 0 e) = psum (fun r => ind (firstMax (L r) = e)) (512 * t.val))
    (p : Fin 512) (e : Fin 16) (c : Fin 256) :
    k0_pay13 (F := Ideal) (k0_pay6 (F := Ideal) x w) (k0_pay7 (F := Ideal) x w) (k0_pay8 (F := Ideal) x w s) (ix3 p e c)
      = BitVec.setWidth 32 (BitVec.ofBool (decide (combine (fun r => firstMax (L r)) (fun r => gate (L r)) (row t p) e c ≠ 0))) := by
  rw [dispatch_apply, combine_row L t x w hx s hs]

/-- The loss of the last point, from the rows carried into it. -/
theorem loss_row (ht : t.val = 7) (s g : FVec Ideal S1x16 .f32)
    (hs : ∀ e, s (ix2 0 e) = psum (fun r => ind (firstMax (L r) = e)) 3584)
    (hg : ∀ e, g (ix2 0 e) = psum (fun r => gate (L r) e) 3584) :
    k0_pay1 (F := Ideal) (k0_pay11 (F := Ideal) (k0_pay6 (F := Ideal) x w) g) (k0_pay10 (F := Ideal) s (k0_pay9 (F := Ideal) x w))
      = auxLoss (fun r => firstMax (L r)) (fun r => gate (L r)) := by
  have h7 : 512 * t.val = 3584 := by omega
  rw [loss_eq]
  unfold auxLoss
  refine congrArg (· * ((16 : ℝ) : EReal)) (Finset.sum_congr rfl fun e _ => ?_)
  rw [count_step L t x w hx s e (by rw [h7]; exact hs e), sum_step L t x w hx g e (by rw [h7]; exact hg e), h7, cnt_cast,
    ← psum_all (fun r => gate (L r) e)]

end Block

/-! ## The blocks and rows of a run -/

variable (m : (ℓ : Loc nD τ sig) → Buf (Elt Ideal) ℓ) (c : Dev nD)

/-- The index maps of the four windows that move or are read. -/
theorem idx : ∀ t : Fin cfg0.N, win0_0.index t = ![t.val, 0] ∧ win0_1.index t = ![0, 0] ∧ win0_3.index t = ![t.val, 0, 0]
    ∧ win0_4.index t = ![t.val, 0, 0] :=
  (by decide +kernel : ∀ t : Fin grid0.N, _)

/-- The tokens the program is given. -/
def tokens : FVec Ideal S4096x1024 .f32 := m ((c : Thread nD τ).loc main_arg0)

/-- The router's weights the program is given. -/
def weights : FVec Ideal S16x1024 .f32 := m ((c : Thread nD τ).loc main_arg1)

/-- The tokens' block of a point. -/
theorem x_apply (t : Fin cfg0.N) (p : Fin 512) (k : Fin 1024) :
    (show FVec Ideal S512x1024 .f32 from iblk m c 0 t) (ix2 p k) = tokens m c (ix2 (row t p) k) := by
  unfold tokens row
  blk_point [iblk, V, idx t]

/-- The weights are read whole at every point. -/
theorem w_apply (t : Fin cfg0.N) (e : Fin 16) (k : Fin 1024) :
    (show FVec Ideal S16x1024 .f32 from iblk m c 1 t) (ix2 e k) = weights m c (ix2 e k) := by
  unfold weights
  blk_point [iblk, V, idx t]

/-- The logits of a block are the logits of its tokens. -/
theorem logits_row (t : Fin cfg0.N) (p : Fin 512) (e : Fin 16) :
    k0_pay4 (F := Ideal) (iblk m c 0 t) (iblk m c 1 t) (ix2 p e) = logit (tokens m c) (weights m c) (row t p) e := by
  rw [logits_apply]
  exact Finset.sum_congr rfl fun k _ => congrArg₂ (· * ·) (x_apply m c t p k) (w_apply m c t e k)

/-- The counts carried out of point `n`. -/
theorem counts_at (n : ℕ) (hn : n < cfg0.N) (e : Fin 16) :
    (show FVec Ideal S1x16 .f32 from (outsAt0 m c n hn).2.2.2.1) (ix2 0 e)
      = psum (fun r => ind (firstMax (logit (tokens m c) (weights m c) r) = e)) (512 * n + 512) := by
  have h8 : n < 8 := hn
  induction n with
  | zero =>
    rw [outsAt0_A m c ⟨0, hn⟩ rfl (show ¬0 % 8 = 7 by omega)]
    frame_out
    exact count_step _ ⟨0, hn⟩ _ _ (logits_row m c ⟨0, hn⟩) _ e (by rw [zeroCount_apply]; exact (psum_zero _).symm)
  | succ k ih =>
    have hp := ih (by omega) (by omega)
    by_cases h7 : (k + 1) % 8 = 7
    · rw [outsAt0_C m c ⟨k + 1, hn⟩ (show ¬(k + 1) % 8 = 0 by omega) h7]
      frame_out
      rw [read_unread_whole]
      exact count_step _ ⟨k + 1, hn⟩ _ _ (logits_row m c ⟨k + 1, hn⟩) _ e hp
    · rw [outsAt0_B m c ⟨k + 1, hn⟩ (show ¬(k + 1) % 8 = 0 by omega) h7]
      frame_out
      rw [read_unread_whole]
      exact count_step _ ⟨k + 1, hn⟩ _ _ (logits_row m c ⟨k + 1, hn⟩) _ e hp

/-- The gate sums carried out of point `n`. -/
theorem sums_at (n : ℕ) (hn : n < cfg0.N) (e : Fin 16) :
    (show FVec Ideal S1x16 .f32 from (outsAt0 m c n hn).2.2.2.2) (ix2 0 e)
      = psum (fun r => gate (logit (tokens m c) (weights m c) r) e) (512 * n + 512) := by
  have h8 : n < 8 := hn
  induction n with
  | zero =>
    rw [outsAt0_A m c ⟨0, hn⟩ rfl (show ¬0 % 8 = 7 by omega)]
    frame_out
    exact sum_step _ ⟨0, hn⟩ _ _ (logits_row m c ⟨0, hn⟩) _ e (by rw [zeroSum_apply]; exact (psum_zero _).symm)
  | succ k ih =>
    have hp := ih (by omega) (by omega)
    by_cases h7 : (k + 1) % 8 = 7
    · rw [outsAt0_C m c ⟨k + 1, hn⟩ (show ¬(k + 1) % 8 = 0 by omega) h7]
      frame_out
      rw [read_unread_whole]
      exact sum_step _ ⟨k + 1, hn⟩ _ _ (logits_row m c ⟨k + 1, hn⟩) _ e hp
    · rw [outsAt0_B m c ⟨k + 1, hn⟩ (show ¬(k + 1) % 8 = 0 by omega) h7]
      frame_out
      rw [read_unread_whole]
      exact sum_step _ ⟨k + 1, hn⟩ _ _ (logits_row m c ⟨k + 1, hn⟩) _ e hp

/-- The choice of token `r` in the run. -/
abbrev choice : Fin 4096 → Fin 16 := fun r => firstMax (logit (tokens m c) (weights m c) r)

/-- The gates of token `r` in the run. -/
abbrev gates : Fin 4096 → Fin 16 → EReal := fun r => gate (logit (tokens m c) (weights m c) r)

/-- The combine weights' block of a point. -/
theorem combine_at (t : Fin cfg0.N) (p : Fin 512) (e : Fin 16) (d : Fin 256) :
    (show FVec Ideal S512x16x256 .f32 from (outsAt0 m c t.val t.isLt).2.1) (ix3 p e d) = combine (choice m c) (gates m c) (row t p) e d := by
  obtain ⟨n, hn⟩ := t
  have h8 : n < 8 := hn
  cases n with
  | zero =>
    rw [outsAt0_A m c ⟨0, hn⟩ rfl (show ¬0 % 8 = 7 by omega)]
    frame_out
    exact combine_row _ ⟨0, hn⟩ _ _ (logits_row m c ⟨0, hn⟩) _ (fun e => by rw [zeroCount_apply]; exact (psum_zero _).symm) p e d
  | succ k =>
    have hp := counts_at m c k (by omega)
    by_cases h7 : (k + 1) % 8 = 7
    · rw [outsAt0_C m c ⟨k + 1, hn⟩ (show ¬(k + 1) % 8 = 0 by omega) h7]
      frame_out
      rw [read_unread_whole]
      exact combine_row _ ⟨k + 1, hn⟩ _ _ (logits_row m c ⟨k + 1, hn⟩) _ hp p e d
    · rw [outsAt0_B m c ⟨k + 1, hn⟩ (show ¬(k + 1) % 8 = 0 by omega) h7]
      frame_out
      rw [read_unread_whole]
      exact combine_row _ ⟨k + 1, hn⟩ _ _ (logits_row m c ⟨k + 1, hn⟩) _ hp p e d

/-- The dispatch words' block of a point. -/
theorem dispatch_at (t : Fin cfg0.N) (p : Fin 512) (e : Fin 16) (d : Fin 256) :
    (show IVec S512x16x256 32 from (outsAt0 m c t.val t.isLt).2.2.1) (ix3 p e d)
      = BitVec.setWidth 32 (BitVec.ofBool (decide (combine (choice m c) (gates m c) (row t p) e d ≠ 0))) := by
  obtain ⟨n, hn⟩ := t
  have h8 : n < 8 := hn
  cases n with
  | zero =>
    rw [outsAt0_A m c ⟨0, hn⟩ rfl (show ¬0 % 8 = 7 by omega)]
    frame_out
    exact dispatch_row _ ⟨0, hn⟩ _ _ (logits_row m c ⟨0, hn⟩) _ (fun e => by rw [zeroCount_apply]; exact (psum_zero _).symm) p e d
  | succ k =>
    have hp := counts_at m c k (by omega)
    by_cases h7 : (k + 1) % 8 = 7
    · rw [outsAt0_C m c ⟨k + 1, hn⟩ (show ¬(k + 1) % 8 = 0 by omega) h7]
      frame_out
      rw [read_unread_whole]
      exact dispatch_row _ ⟨k + 1, hn⟩ _ _ (logits_row m c ⟨k + 1, hn⟩) _ hp p e d
    · rw [outsAt0_B m c ⟨k + 1, hn⟩ (show ¬(k + 1) % 8 = 0 by omega) h7]
      frame_out
      rw [read_unread_whole]
      exact dispatch_row _ ⟨k + 1, hn⟩ _ _ (logits_row m c ⟨k + 1, hn⟩) _ hp p e d

/-- The loss stored at the last point. -/
theorem loss_at (t : Fin cfg0.N) (h7 : t.val = 7) (j : S1x1.Idx) :
    (show FVec Ideal S1x1 .f32 from (outsAt0 m c t.val t.isLt).1) j = auxLoss (choice m c) (gates m c) := by
  obtain ⟨n, hn⟩ := t
  obtain rfl : n = 7 := h7
  rw [outsAt0_C m c ⟨7, hn⟩ (show ¬7 % 8 = 0 by omega) rfl]
  frame_out
  rw [read_unread_whole, read_unread_whole]
  exact loss_row _ ⟨7, hn⟩ _ _ (logits_row m c ⟨7, hn⟩) rfl _ _ (counts_at m c 6 (show 6 < 8 by omega)) (sums_at m c 6 (show 6 < 8 by omega))

end Cert.Point
-- ==== Proof.KernelArr.lean ====
module

public import proofs.«01_k».proof.Proof.KernelPoint
public import Idealize.ShloMosaic.Lib.Pipeline.FrameSuffix
public import Idealize.ShloMosaic.Lib.Claim

/-! # What the kernel's arrays hold after the run

Every point writes its own block of the combine weights and of the dispatch words, and the last point stores the loss:
so the arrays hold `combine`, the words of its nonzero entries, and `auxLoss`. The host lines after the grid turn the
words into truth values and drop the loss's two axes of length one. -/

@[expose] public section

set_option maxRecDepth 16384

noncomputable section

namespace Cert.Arr

open Idealize.ShloMosaic Idealize.ShloMosaic.TcCoe Idealize.SL.Sem
open Cert.KernelIdeal Cert.KernelIdeal.Gen Cert.Gate Cert.Block Cert.Point

variable (m : (ℓ : Loc nD τ sig) → Buf (Elt Ideal) ℓ) (c : Dev nD)

/-- The combine weights after the run. -/
theorem combine_final : (dats m 0 c).arrAt 3 (cfgs 0).N
    = (fun j => combine (choice m c) (gates m c) (j 0) (j 1) (j 2) : FVec Ideal S4096x16x256 .f32) := by
  refine (dats m 0 c).arrAt_eq_of_covers 3 _ (by decide +kernel) fun t _ y => ?_
  have e0 : ((cfg0.win 3).blk t).view.emb y 0 = row t (y 0) := Fin.ext (by blk_simp [idx t]; simp [row, mul_comm])
  have e1 : ((cfg0.win 3).blk t).view.emb y 1 = y 1 := Fin.ext (by blk_simp [idx t])
  have e2 : ((cfg0.win 3).blk t).view.emb y 2 = y 2 := Fin.ext (by blk_simp [idx t])
  rw [e0, e1, e2]
  blk_simp
  rw [after0_3]
  refine Eq.trans ?_ (combine_at m c t (y 0) (y 1) (y 2))
  exact congrArg _ (eq_ix3 y)

/-- The dispatch words after the run. -/
theorem words_final : (dats m 0 c).arrAt 4 (cfgs 0).N
    = (fun j => BitVec.setWidth 32 (BitVec.ofBool (decide (combine (choice m c) (gates m c) (j 0) (j 1) (j 2) ≠ 0))) : IVec S4096x16x256 32) := by
  refine (dats m 0 c).arrAt_eq_of_covers 4 _ (by decide +kernel) fun t _ y => ?_
  have e0 : ((cfg0.win 4).blk t).view.emb y 0 = row t (y 0) := Fin.ext (by blk_simp [idx t]; simp [row, mul_comm])
  have e1 : ((cfg0.win 4).blk t).view.emb y 1 = y 1 := Fin.ext (by blk_simp [idx t])
  have e2 : ((cfg0.win 4).blk t).view.emb y 2 = y 2 := Fin.ext (by blk_simp [idx t])
  rw [e0, e1, e2]
  blk_simp
  rw [after0_4]
  refine Eq.trans ?_ (dispatch_at m c t (y 0) (y 1) (y 2))
  exact congrArg _ (eq_ix3 y)

/-- The loss's array after the run. -/
theorem loss_final : (dats m 0 c).arrAt 2 (cfgs 0).N = (fun _ => auxLoss (choice m c) (gates m c) : FVec Ideal S1x1 .f32) := by
  refine (dats m 0 c).arrAt_eq_of_after_last 2 t0_7 (by decide +kernel) _ fun j => ?_
  blk_simp
  rw [after0_2]
  exact loss_at m c t0_7 rfl j

/-- A word made of a truth value differs from zero exactly when the truth value holds. -/
theorem cmpi_ne_word (p : Prop) [Decidable p] :
    (IntOp.cmpi .ne (BitVec.setWidth 32 (BitVec.ofBool (decide p))) 0#32 : BitVec 1) = if p then 1#1 else 0#1 := by
  by_cases h : p <;> simp [h, IntOp.cmpi]

/-- The dispatch mask the program returns. -/
theorem dispatch_result : Pipeline.afterTail₀ cfgs (dats m) 0 (V0 m) [hostOps1] c main_v3
    = (fun j => dispatch (choice m c) (gates m c) (j 0) (j 1) (j 2) : IVec S4096x16x256 1) := by
  unfold Pipeline.afterTail₀
  simp only [List.flatten_cons, List.flatten_nil, List.append_nil, StableHlo.after_cons, StableHlo.after_nil]
  after_results_simp
  erw [Pipeline.withArrays_arr (cfgs 0).spec (by decide) c (V0 m c) (fun w => (dats m 0 c).arrAt w (cfgs 0).N) 4]
  rw [words_final]
  exact funext fun j => cmpi_ne_word _

/-- The loss the program returns. -/
theorem loss_result : Pipeline.afterTail₀ cfgs (dats m) 0 (V0 m) [hostOps1] c main_v4
    = (fun _ => auxLoss (choice m c) (gates m c) : FVec Ideal S_ .f32) := by
  unfold Pipeline.afterTail₀
  simp only [List.flatten_cons, List.flatten_nil, List.append_nil, StableHlo.after_cons, StableHlo.after_nil]
  after_results_simp
  erw [Pipeline.withArrays_arr (cfgs 0).spec (by decide) c (V0 m c) (fun w => (dats m 0 c).arrAt w (cfgs 0).N) 2]
  rw [loss_final]
  rfl

end Cert.Arr
-- ==== Proof.RefTerm.lean ====
module

public import proofs.«01_k».proof.Proof.Gen.ReferenceIdeal
public import Idealize.ShloMosaic.PureOps.Ideal

/-! # The reference, stage by stage

The vectors the reference computes, each stage a function of the vectors it is computed from: the gates, the chosen
experts, their one-hot rows, the running counts less one, the kept rows, the slots, and the three results. Nothing is
proved here; the stages only name parts of the reference's term. -/

@[expose] public section

set_option maxRecDepth 16384

noncomputable section

namespace Cert.Ref

open Idealize.ShloMosaic Idealize.ShloMosaic.TcCoe Idealize.SL.Sem
open Cert.ReferenceIdeal Cert.ReferenceIdeal.Gen

/-- The router's logits. -/
def logitsV (X : FVec Ideal S4096x1024 .f32) (W : FVec Ideal S16x1024 .f32) : FVec Ideal S4096x16 .f32 :=
  Host.dotGeneral dot_S4096x1024_S1024x16_S4096x16_1_0_0_1_n_n none X (transpose S1024x16 [1, 0] W transposes_S16x1024_S1024x16_1_0)

/-- The exponentials of the logits, each row's maximum subtracted. -/
def expsV (l : FVec Ideal S4096x16 .f32) : FVec Ideal S4096x16 .f32 :=
  Host.exp (subf l (broadcastInDim S4096x16 ![0, 1] bcast_S4096x1_S4096x16_0_1 (broadcastInDim S4096x1 ![0] bcast_S4096_S4096x1_0
    (maximumf (broadcastInDim S4096 ![] bcast_S_S4096 (constant (F := Ideal) S_ .f32 0xFF800000#32))
      (Host.reduce FloatOps.maximumf l (constant (F := Ideal) S_ .f32 0xFF800000#32) reducesTo_S4096x16_S4096_d1 h_S_)))))

/-- The gates. -/
def gatesV (l : FVec Ideal S4096x16 .f32) : FVec Ideal S4096x16 .f32 :=
  Host.divf (expsV l) (broadcastInDim S4096x16 ![0, 1] bcast_S4096x1_S4096x16_0_1 (broadcastInDim S4096x1 ![0] bcast_S4096_S4096x1_0
    (Host.reduceAdd (expsV l) (constant (F := Ideal) S_ .f32 0x0#32) reducesTo_S4096x16_S4096_d1 h_S_)))

/-- Each token's chosen expert. -/
def chosenV (g : FVec Ideal S4096x16 .f32) : IVec S4096 32 :=
  fun j => (Host.argReduce (reducer_argmax_f32_i32 (F := Ideal)) g (iotaInDim S4096x16 32 1) (constant (F := Ideal) S_ .f32 0xFF800000#32)
    (constantI S_ 32 0#32) reducesTo_S4096x16_S4096_d1 h_S_ j).2

/-- The one-hot rows of the chosen experts. -/
def hotV (a : IVec S4096 32) : IVec S4096x16 32 :=
  extui 32 (cmpi .eq (broadcastInDim S4096x16 ![0, 1] bcast_S4096x1_S4096x16_0_1 (broadcastInDim S4096x1 ![0] bcast_S4096_S4096x1_0 a))
    (broadcastInDim S4096x16 ![0, 1] bcast_S1x16_S4096x16_0_1 (iotaInDim S1x16 32 1))) natLt_1_32

/-- The running counts down each expert's column, less one. -/
def locsV (h : IVec S4096x16 32) : IVec S4096x16 32 :=
  subi (Host.reduceWindow IntOp.addi ![4096, 1] ![1, 1] ![4095, 0] ![0, 0] h (broadcastInDim S_ ![] bcast_S_S_ (constantI S_ 32 0#32))
    reduceWindows_S4096x16_S4096x16_w4096s1p4095_0_w1s1p0_0 h_S_) (broadcastInDim S4096x16 ![] bcast_S_S4096x16 (constantI S_ 32 1#32))

/-- The auxiliary loss. -/
def lossV (g : FVec Ideal S4096x16 .f32) (h : IVec S4096x16 32) : FVec Ideal S_ .f32 :=
  mulf (mulf (Host.divf (Host.reduceAdd (mulf
        (Host.divf (Host.reduceAdd g (constant (F := Ideal) S_ .f32 0x0#32) reducesTo_S4096x16_S16_d0 h_S_)
          (broadcastInDim S16 ![] bcast_S_S16 (constant (F := Ideal) S_ .f32 0x45800000#32)))
        (Host.divf (Host.reduceAdd (sitofp (F := Ideal) .f32 h) (constant (F := Ideal) S_ .f32 0x0#32) reducesTo_S4096x16_S16_d0 h_S_)
          (broadcastInDim S16 ![] bcast_S_S16 (constant (F := Ideal) S_ .f32 0x45800000#32))))
      (constant (F := Ideal) S_ .f32 0x0#32) reducesTo_S16_S_d0 h_S_) (constant (F := Ideal) S_ .f32 0x41800000#32))
    (constant (F := Ideal) S_ .f32 0x41800000#32)) (constant (F := Ideal) S_ .f32 0x41800000#32)

/-- The one-hot rows of the tokens that found room. -/
def keptV (h l : IVec S4096x16 32) : IVec S4096x16 32 :=
  muli h (extui 32 (cmpi .slt l (broadcastInDim S4096x16 ![] bcast_S_S4096x16 (constantI S_ 32 256#32))) natLt_1_32)

/-- The slot of each token. -/
def slotsV (l k : IVec S4096x16 32) : IVec S4096 32 :=
  Host.reduce IntOp.addi (muli l k) (constantI S_ 32 0#32) reducesTo_S4096x16_S4096_d1 h_S_

/-- The gate each token keeps, at its expert. -/
def weightsV (g k : FVec Ideal S4096x16 .f32) : FVec Ideal S4096x16 .f32 :=
  mulf (broadcastInDim S4096x16 ![0, 1] bcast_S4096x1_S4096x16_0_1 (broadcastInDim S4096x1 ![0] bcast_S4096_S4096x1_0
    (Host.dotGeneral dot_S4096x16_S4096x16_S4096_1_1_n_n_0_0 none g k))) k

/-- The one-hot rows of the slots. -/
def slotHotV (s : IVec S4096 32) : FVec Ideal S4096x256 .f32 :=
  uitofp .f32 (cmpi .eq (broadcastInDim S4096x256 ![0, 1] bcast_S4096x1_S4096x256_0_1 (broadcastInDim S4096x1 ![0] bcast_S4096_S4096x1_0 s))
    (broadcastInDim S4096x256 ![0, 1] bcast_S1x256_S4096x256_0_1 (iotaInDim S1x256 32 1)))

/-- The combine weights, from the kept gates and the slots' one-hot rows. -/
def combineV (w : FVec Ideal S4096x16 .f32) (s : FVec Ideal S4096x256 .f32) : FVec Ideal S4096x16x256 .f32 :=
  mulf (broadcastInDim S4096x16x256 ![0, 1, 2] bcast_S4096x16x1_S4096x16x256_0_1_2 (broadcastInDim S4096x16x1 ![0, 1] bcast_S4096x16_S4096x16x1_0_1 w))
    (broadcastInDim S4096x16x256 ![0, 1, 2] bcast_S4096x1x256_S4096x16x256_0_1_2 (broadcastInDim S4096x1x256 ![0, 2] bcast_S4096x256_S4096x1x256_0_2 s))

/-- The dispatch mask, from the combine weights. -/
def dispatchV (v : FVec Ideal S4096x16x256 .f32) : IVec S4096x16x256 1 :=
  id (cmpf .une v (broadcastInDim S4096x16x256 ![] bcast_S_S4096x16x256 (constant (F := Ideal) S_ .f32 0x0#32)))

/-- The reference's combine weights from the gates. -/
def combineOf (g : FVec Ideal S4096x16 .f32) : FVec Ideal S4096x16x256 .f32 :=
  let h := hotV (chosenV g)
  let l := locsV h
  let k := keptV h l
  combineV (weightsV g (sitofp .f32 k)) (slotHotV (slotsV l k))

/-- The reference's auxiliary loss from the gates. -/
def lossOf (g : FVec Ideal S4096x16 .f32) : FVec Ideal S_ .f32 := lossV g (hotV (chosenV g))

end Cert.Ref
-- ==== Proof.ArgMax.lean ====
/-
  The reference's arg-max of a row is the first position of the row's maximum.

  The reduction runs over the row's (value, position) pairs and keeps, of two pairs, the one with the larger value, and at
  equal values the one with the smaller position. The pair it ends with is therefore one of the pairs, and no pair is
  better; that determines its position.
-/
module

public import proofs.«01_k».proof.Proof.RefTerm
public import proofs.«01_k».proof.Proof.Words
public import Idealize.ShloMosaic.PureOps.Reduce
public import Idealize.ShloMosaic.PureOps.Ideal.Laws
public import Idealize.ShloMosaic.Lib.Pointwise

@[expose] public section

set_option maxRecDepth 16384

noncomputable section

namespace Cert.Ref

open Idealize.ShloMosaic Idealize.ShloMosaic.TcCoe Idealize.SL.Sem
open Cert.ReferenceIdeal Cert.ReferenceIdeal.Gen Cert.Gate

/-- The pair `a` is at least as good as `b`: a larger value, or the same value at no larger a position. -/
def AtLeast (a b : EReal × BitVec 32) : Prop := b.1 < a.1 ∨ (a.1 = b.1 ∧ a.2.toInt ≤ b.2.toInt)

theorem AtLeast.refl (a : EReal × BitVec 32) : AtLeast a a := Or.inr ⟨rfl, le_rfl⟩

theorem AtLeast.trans {a b c : EReal × BitVec 32} (h : AtLeast a b) (k : AtLeast b c) : AtLeast a c := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

/-- The reducer keeps its first pair when that is strictly better, and otherwise its second. -/
theorem reducer_eq (a b : EReal × BitVec 32) :
    reducer_argmax_f32_i32 (F := Ideal) a b = if b.1 < a.1 ∨ (a.1 = b.1 ∧ a.2.toInt < b.2.toInt) then a else b := by
  obtain ⟨x, i⟩ := a
  obtain ⟨y, k⟩ := b
  have h1 : FloatOps.cmpf (F := Ideal) (φ := .f32) .ogt x y = BitVec.ofBool (decide (y < x)) := rfl
  have h2 : FloatOps.cmpf (F := Ideal) (φ := .f32) .une x x = BitVec.ofBool (decide (x ≠ x)) := rfl
  have h3 : FloatOps.cmpf (F := Ideal) (φ := .f32) .oeq x y = BitVec.ofBool (decide (x = y)) := rfl
  have h4 : IntOp.cmpi .slt i k = BitVec.ofBool (decide (i.toInt < k.toInt)) := rfl
  unfold reducer_argmax_f32_i32
  simp only [h1, h2, h3, h4]
  by_cases p : y < x <;> by_cases q : x = y <;> by_cases r : i.toInt < k.toInt <;>
    simp [p, q, r, IntOp.ori, IntOp.andi, Scalar.select]

/-- The reducer's pair is as good as both of its arguments. -/
theorem reducer_atLeast (a b : EReal × BitVec 32) :
    AtLeast (reducer_argmax_f32_i32 (F := Ideal) a b) a ∧ AtLeast (reducer_argmax_f32_i32 (F := Ideal) a b) b := by
  rw [reducer_eq]
  split_ifs with h
  · exact ⟨.refl a, h.imp id fun h => ⟨h.1, h.2.le⟩⟩
  · rw [not_or, not_and, not_lt, not_lt] at h
    refine ⟨?_, .refl b⟩
    rcases h.1.lt_or_eq with h' | h'
    · exact Or.inl h'
    · exact Or.inr ⟨h'.symm, h.2 h'⟩

/-- The pair a reduction ends with is one of its pairs and as good as all of them. -/
theorem fold_best (L : List (EReal × BitVec 32)) (z : EReal × BitVec 32) :
    L.foldl (reducer_argmax_f32_i32 (F := Ideal)) z ∈ z :: L ∧ ∀ q ∈ z :: L, AtLeast (L.foldl (reducer_argmax_f32_i32 (F := Ideal)) z) q := by
  induction L generalizing z with
  | nil => exact ⟨List.mem_cons_self, fun q hq => by rw [List.mem_singleton.mp hq]; exact .refl _⟩
  | cons a L ih =>
    rw [List.foldl_cons]
    obtain ⟨hm, hb⟩ := ih (reducer_argmax_f32_i32 (F := Ideal) z a)
    obtain ⟨hz, ha⟩ := reducer_atLeast z a
    have hs : reducer_argmax_f32_i32 (F := Ideal) z a = z ∨ reducer_argmax_f32_i32 (F := Ideal) z a = a := by
      rw [reducer_eq]; split_ifs <;> simp
    refine ⟨?_, fun q hq => ?_⟩
    · rcases List.mem_cons.mp hm with h | h
      · rw [h]; rcases hs with h | h <;> rw [h] <;> simp
      · exact List.mem_cons_of_mem _ (List.mem_cons_of_mem _ h)
    · rcases List.mem_cons.mp hq with h | h
      · rw [h]; exact (hb _ List.mem_cons_self).trans hz
      · rcases List.mem_cons.mp h with h | h
        · rw [h]; exact (hb _ List.mem_cons_self).trans ha
        · exact hb q (List.mem_cons_of_mem _ h)

/-- The pairs of row `r`. -/
theorem mem_row (g : FVec Ideal S4096x16 .f32) (r : Fin 4096) (p : EReal × BitVec 32) :
    p ∈ Host.argReduceFiber g (iotaInDim S4096x16 32 1) reducesTo_S4096x16_S4096_d1 (ix1 r)
      ↔ ∃ e : Fin 16, (g (ix2 r e), BitVec.ofNat 32 e.val) = p := by
  unfold Host.argReduceFiber
  have hd : ∀ i : S4096x16.Idx, (reducesTo_S4096x16_S4096_d1.drop i 0 : ℕ) = i 0 := fun i =>
    reducesTo_S4096x16_S4096_d1.drop_apply_val_of_eq i 0 0
  rw [List.mem_map]
  constructor
  · rintro ⟨n, hn, rfl⟩
    have h := of_decide_eq_true (List.mem_filter.mp hn).2
    have h0 : S4096x16.rowMajor.symm n 0 = r := Fin.ext ((hd _).symm.trans (congrArg (fun j : S4096.Idx => (j 0 : ℕ)) h))
    refine ⟨S4096x16.rowMajor.symm n 1, ?_⟩
    rw [eq_ix2 (S4096x16.rowMajor.symm n), h0]
    rfl
  · rintro ⟨e, rfl⟩
    refine ⟨S4096x16.rowMajor (ix2 r e), List.mem_filter.mpr ⟨List.mem_finRange _, decide_eq_true ?_⟩, ?_⟩
    · rw [Equiv.symm_apply_apply]
      funext b
      obtain rfl : b = 0 := Subsingleton.elim (α := Fin 1) _ _
      exact Fin.ext (hd _)
    · rw [Equiv.symm_apply_apply]
      rfl

/-- The chosen experts are the first positions of the rows' maxima. -/
theorem chosenV_apply (g : FVec Ideal S4096x16 .f32) (r : Fin 4096) :
    chosenV g (ix1 r) = BitVec.ofNat 32 (firstMax fun e => g (ix2 r e)).val := by
  unfold chosenV
  rw [Ideal.argReduce_eq_reduce2, Host.reduce2_eq_foldl_fiber]
  have hz : ((constant (F := Ideal) S_ .f32 0xFF800000#32 (Shape.Idx.first h_S_) : EReal), constantI S_ 32 0#32 (Shape.Idx.first h_S_))
      = ((⊥ : EReal), 0#32) := Prod.ext ofBits_neg_inf rfl
  rw [hz]
  obtain ⟨hm, hb⟩ := fold_best (Host.argReduceFiber g (iotaInDim S4096x16 32 1) reducesTo_S4096x16_S4096_d1 (ix1 r)) (⊥, 0#32)
  set p := (Host.argReduceFiber g (iotaInDim S4096x16 32 1) reducesTo_S4096x16_S4096_d1 (ix1 r)).foldl
    (reducer_argmax_f32_i32 (F := Ideal)) ((⊥ : EReal), 0#32) with hp
  have hrow : ∀ e : Fin 16, AtLeast p (g (ix2 r e), BitVec.ofNat 32 e.val) := fun e =>
    hb _ (List.mem_cons_of_mem _ ((mem_row g r _).mpr ⟨e, rfl⟩))
  have hmax : ∀ e : Fin 16, g (ix2 r e) ≤ p.1 := fun e => (hrow e).elim le_of_lt fun h => h.1.ge
  rcases List.mem_cons.mp hm with h | h
  · have hbot : ∀ e : Fin 16, g (ix2 r e) = ⊥ := fun e => le_bot_iff.mp (by have := hmax e; rwa [h] at this)
    have h0 : firstMax (fun e => g (ix2 r e)) = 0 :=
      firstMax_eq ⟨fun j => (hbot j).trans_le bot_le, fun j _ => Fin.zero_le j⟩
    rw [h0, h]
    rfl
  · obtain ⟨e, he⟩ := (mem_row g r p).mp h
    have h1 : firstMax (fun e => g (ix2 r e)) = e := by
      refine firstMax_eq ⟨fun j => by have := hmax j; rwa [← he] at this, fun j hj => ?_⟩
      have hj' := hrow j
      rw [← he] at hj'
      rcases hj' with h' | ⟨_, h'⟩
      · exact absurd h' (not_lt.mpr hj)
      · simp only [] at h'
        rw [toInt_small (by omega), toInt_small (by omega)] at h'
        exact Fin.le_def.mpr (by exact_mod_cast h')
    rw [h1, ← he]

end Cert.Ref
-- ==== Proof.RunningSum.lean ====
/-
  A running sum down the columns of a matrix of words, as a windowed reduction whose window has the matrix's height and
  which is padded above by one row less: where the words hold naturals, entry `j` of a column holds the sum of the
  column's entries up to and with `j`.
-/
module

public import proofs.«01_k».proof.Proof.Spec
public import Idealize.ShloMosaic.Lib.Routing.Ops
public import Idealize.ShloMosaic.Lib.Routing.OpsPair
public import Idealize.ShloMosaic.Lib.Routing.OpsOne

@[expose] public section

noncomputable section

namespace Cert.Gate

open Idealize.ShloMosaic Idealize.ShloMosaic.Routing

/-- The sum of a list of entries before `n` is the partial sum. -/
theorem sum_range_eq_psum {N : ℕ} (a : Fin N → ℕ) (n : ℕ) (hn : n ≤ N) :
    ((List.range n).map fun i => if h : i < N then a ⟨i, h⟩ else 0).sum = psum a n := by
  induction n with
  | zero => rw [psum_zero]; rfl
  | succ k ih =>
    have hk : k < N := by omega
    rw [List.range_succ, List.map_append, List.sum_append, ih (by omega), show k + 1 = (⟨k, hk⟩ : Fin N).val + 1 from rfl, psum_succ]
    simp [hk]

/-- The running sum at an entry. -/
theorem runningSum_apply {H M : ℕ} (x : IVec (shape2 (H + 1) M) 32) (a : Fin (H + 1) → ℕ) (e : Fin M)
    (hx : ∀ i, x (ix2 i e) = BitVec.ofNat 32 (a i)) (init : IVec shape0 32) (hu : 0 < shape0.numel)
    (h0 : init (Shape.Idx.first hu) = 0#32)
    (h : (shape2 (H + 1) M).ReduceWindows (![H + 1, 1] : Fin 2 → ℕ) ![1, 1] ![H, 0] ![0, 0] (shape2 (H + 1) M)) (j : Fin (H + 1)) :
    Host.reduceWindow IntOp.addi ![H + 1, 1] ![1, 1] ![H, 0] ![0, 0] x init h hu (ix2 j e) = BitVec.ofNat 32 (psum a (j.val + 1)) := by
  have hnum : (shape2 (H + 1) 1).numel = H + 1 := numel_col (H + 1)
  set b : ℕ → ℕ := fun i => if h : i < H + 1 then a ⟨i, h⟩ else 0 with hb
  have hj := j.isLt
  unfold Host.reduceWindow
  dsimp only
  refine (foldl_addi_ofNat _ _ (fun n => if H ≤ j.val + n.val then b (j.val + n.val - H) else 0) (fun n _ => ?_) _ 0 h0).trans ?_
  · have hn : n.val < H + 1 := lt_of_lt_of_eq n.isLt hnum
    have hs := symm22 (A := H + 1) (B := 1) n (by rw [Nat.div_one]; exact hn) (Nat.mod_lt _ one_pos)
    have hr : ((shape2 (H + 1) 1).rowMajor.symm n 0).val = n.val := by rw [hs]; exact Nat.div_one _
    have hc : ((shape2 (H + 1) 1).rowMajor.symm n 1).val = 0 := by rw [hs]; exact Nat.mod_one _
    have p0 : j.val * 1 + ((shape2 (H + 1) 1).rowMajor.symm n 0).val = j.val + n.val := by rw [hr, Nat.mul_one]
    have p1 : e.val * 1 + ((shape2 (H + 1) 1).rowMajor.symm n 1).val = e.val := by rw [hc, Nat.mul_one, Nat.add_zero]
    split
    · next hin =>
      have h1 : H ≤ j.val * 1 + ((shape2 (H + 1) 1).rowMajor.symm n 0).val := (hin 0).1
      rw [p0] at h1
      have hlt : j.val + n.val - H < H + 1 := by omega
      rw [if_pos h1, hb]
      simp only [hlt, dite_true]
      rw [← hx]
      refine congrArg x (funext fun k => Fin.ext ?_)
      match k with
      | ⟨0, _⟩ => exact congrArg (· - H) p0
      | ⟨1, _⟩ => exact p1
    · next hin =>
      rw [if_neg fun h1 => hin ?_]
      · exact h0
      · refine Fin.forall_fin_two.mpr ⟨⟨?_, ?_⟩, ⟨Nat.zero_le _, ?_⟩⟩
        · exact h1.trans_eq p0.symm
        · exact lt_of_eq_of_lt (congrArg (· - H) p0) (show j.val + n.val - H < H + 1 by omega)
        · exact lt_of_eq_of_lt p1 e.isLt
  · rw [Nat.zero_add, map_finRange_val _ fun n => if H ≤ j.val + n then b (j.val + n - H) else 0]
    refine (congrArg (fun K => BitVec.ofNat 32 ((List.range K).map fun n => if H ≤ j.val + n then b (j.val + n - H) else 0).sum) hnum).trans ?_
    rw [sum_window b H j.val (by omega), hb, sum_range_eq_psum a _ (by omega)]

end Cert.Gate
-- ==== Proof.RefValue.lean ====
/-
  What the reference computes, entry by entry: its logits and gates, the chosen experts, the locations, the kept rows, the
  slots, and from them the three results of the gate over the tokens' choices `f r` (the first maximum of the gates).
-/
module

public import proofs.«01_k».proof.Proof.ArgMax
public import proofs.«01_k».proof.Proof.RunningSum

@[expose] public section

set_option maxRecDepth 16384

noncomputable section

namespace Cert.Ref

open Idealize.ShloMosaic Idealize.ShloMosaic.TcCoe Idealize.SL.Sem
open Cert.ReferenceIdeal Cert.ReferenceIdeal.Gen Cert.Gate

/-! ## The gates -/

theorem logitsV_apply (X : FVec Ideal S4096x1024 .f32) (W : FVec Ideal S16x1024 .f32) (r : Fin 4096) (e : Fin 16) :
    logitsV X W (ix2 r e) = logit X W r e := by
  pointwise [logitsV]
  rfl

theorem expsV_apply (l : FVec Ideal S4096x16 .f32) (r : Fin 4096) (e : Fin 16) :
    expsV l (ix2 r e) = Ideal.exp (l (ix2 r e) - rowMax fun e => l (ix2 r e)) := by
  pointwise [expsV]
  rw [ofBits_neg_inf, fold_max, max_eq_right bot_le]

theorem gatesV_apply (l : FVec Ideal S4096x16 .f32) (r : Fin 4096) (e : Fin 16) :
    gatesV l (ix2 r e) = gate (fun e => l (ix2 r e)) e := by
  pointwise [gatesV, expsV_apply]
  rfl

/-! ## The words -/

section Words

variable (f : Fin 4096 → Fin 16) (h l k : IVec S4096x16 32)

/-- The one-hot rows of the choices. -/
theorem hotV_apply (a : IVec S4096 32) (ha : ∀ r, a (ix1 r) = BitVec.ofNat 32 (f r).val) (r : Fin 4096) (e : Fin 16) :
    hotV a (ix2 r e) = BitVec.ofNat 32 (if f r = e then 1 else 0) := by
  pointwise [hotV, ha]
  rw [cmpi_eq (by omega) (by omega), setWidth_ofBool]
  exact congrArg _ (if_congr Fin.ext_iff.symm rfl rfl)

/-- A word less one. -/
theorem subi_one {n : ℕ} : IntOp.subi (BitVec.ofNat 32 (n + 1)) 1#32 = BitVec.ofNat 32 n := by
  unfold IntOp.subi
  rw [BitVec.ofNat_add]
  exact BitVec.add_sub_cancel _ _

variable (hh : ∀ r e, h (ix2 r e) = BitVec.ofNat 32 (if f r = e then 1 else 0))
include hh

/-- The locations: the running counts, less one. -/
theorem locsV_apply (r : Fin 4096) (e : Fin 16) :
    locsV h (ix2 r e) = IntOp.subi (BitVec.ofNat 32 (cnt f e (r.val + 1))) 1#32 := by
  pointwise [locsV]
  exact congrArg (IntOp.subi · 1#32) (runningSum_apply (H := 4095) (M := 16) h (fun r => if f r = e then 1 else 0) e (fun r => hh r e) _ h_S_ rfl
    reduceWindows_S4096x16_S4096x16_w4096s1p4095_0_w1s1p0_0 r)

/-- At its own expert a token's location is its position in the queue. -/
theorem locsV_own (r : Fin 4096) : locsV h (ix2 r (f r)) = BitVec.ofNat 32 (pos f r) := by
  rw [locsV_apply f h hh, cnt_own, subi_one]

/-- The one-hot rows of the tokens that found room. -/
theorem keptV_apply (r : Fin 4096) (e : Fin 16) :
    keptV h (locsV h) (ix2 r e) = BitVec.ofNat 32 (if kept f r e then 1 else 0) := by
  pointwise [keptV, hh]
  by_cases hf : f r = e
  · subst hf
    have hp : pos f r < 2 ^ 31 := lt_of_le_of_lt (cnt_le f (f r) r.val) (by norm_num)
    rw [locsV_own f h hh, show IntOp.cmpi .slt (BitVec.ofNat 32 (pos f r)) 256#32 = BitVec.ofBool (decide (pos f r < 256)) by
      unfold IntOp.cmpi BitVec.slt
      rw [toInt_small hp]
      simp only [show (256#32 : BitVec 32).toInt = 256 from rfl]
      congr 1
      exact decide_eq_decide.mpr (by omega), setWidth_ofBool]
    unfold IntOp.muli
    rw [if_pos rfl, ← BitVec.ofNat_mul, one_mul]
    exact congrArg _ (if_congr (iff_of_eq (by unfold kept; simp)) rfl rfl)
  · rw [if_neg hf, if_neg fun h' : kept f r e => hf h'.1]
    unfold IntOp.muli
    exact BitVec.zero_mul

/-- The slots. -/
theorem slotsV_apply (r : Fin 4096) : slotsV (locsV h) (keptV h (locsV h)) (ix1 r) = BitVec.ofNat 32 (slot f r) := by
  pointwise [slotsV, keptV_apply f h hh]
  have hz : ∀ e, e ≠ f r → IntOp.muli (locsV h (ix2 r e)) (BitVec.ofNat 32 (if kept f r e then 1 else 0)) = 0#32 := fun e he => by
    rw [if_neg fun h' : kept f r e => he h'.1.symm]
    exact BitVec.mul_zero
  have hs : ∀ s : Finset (Fin 16), Finset.fold IntOp.addi 0#32
      (fun e => IntOp.muli (locsV h (ix2 r e)) (BitVec.ofNat 32 (if kept f r e then 1 else 0))) s
        = if f r ∈ s then BitVec.ofNat 32 (slot f r) else 0#32 := by
    intro s
    induction s using Finset.cons_induction with
    | empty => rfl
    | cons e s he ih =>
      rw [Finset.fold_cons, ih]
      by_cases hf : f r = e
      · subst hf
        rw [if_neg he, if_pos (Finset.mem_cons_self _ _), locsV_own f h hh]
        unfold IntOp.addi IntOp.muli
        rw [BitVec.add_zero, ← BitVec.ofNat_mul]
        refine congrArg _ ?_
        unfold slot
        by_cases hp : pos f r < 256
        · rw [if_pos (show kept f r (f r) from ⟨rfl, hp⟩), if_pos hp, mul_one]
        · rw [if_neg fun h' : kept f r (f r) => hp h'.2, if_neg hp, mul_zero]
      · rw [hz e (Ne.symm hf)]
        unfold IntOp.addi
        rw [BitVec.zero_add]
        exact if_congr (by simp [hf]) rfl rfl
  rw [hs, if_pos (Finset.mem_univ _)]

end Words

/-- A word made of an indicator, read as a number. -/
theorem sitofp_ite (p : Prop) [Decidable p] : FloatOps.sitofp (F := Ideal) .f32 (BitVec.ofNat 32 (if p then 1 else 0)) = ind p := by
  rw [← setWidth_ofBool, sitofp_bool]

/-- A truth value read as a number. -/
theorem uitofp_bool (p : Prop) [Decidable p] : FloatOps.uitofp (F := Ideal) .f32 (BitVec.ofBool (decide p)) = ind p := by
  show (((BitVec.ofBool (decide p)).toNat : ℝ) : EReal) = ind p
  unfold ind
  by_cases h : p <;> simp [h]

/-- A sixteenth of a value, times sixteen, is the value: also of an infinite one. -/
theorem div_sixteen_mul (x : EReal) : Ideal.div x ((16 : ℝ) : EReal) * ((16 : ℝ) : EReal) = x := by
  have h0 : ((16 : ℝ) : EReal) ≠ 0 := by rw [← EReal.coe_zero, Ne, EReal.coe_eq_coe_iff]; norm_num
  unfold Ideal.div
  rw [if_neg h0, ← EReal.coe_inv, mul_assoc, ← EReal.coe_mul, inv_mul_cancel₀ (by norm_num), EReal.coe_one, mul_one]

/-! ## The results -/

variable (f : Fin 4096 → Fin 16) (g : FVec Ideal S4096x16 .f32) (h : IVec S4096x16 32)
  (hh : ∀ r e, h (ix2 r e) = BitVec.ofNat 32 (if f r = e then 1 else 0))
include hh

/-- The combine weights, from the gates and the choices' one-hot rows. -/
theorem combineV_apply (r : Fin 4096) (e : Fin 16) (c : Fin 256) :
    combineV (weightsV g (sitofp .f32 (keptV h (locsV h)))) (slotHotV (slotsV (locsV h) (keptV h (locsV h)))) (ix3 r e c)
      = combine f (fun r e => g (ix2 r e)) r e c := by
  have hk : ∀ r e, sitofp (F := Ideal) .f32 (keptV h (locsV h)) (ix2 r e) = ind (kept f r e) := fun r e => by
    show FloatOps.sitofp (F := Ideal) .f32 (keptV h (locsV h) (ix2 r e)) = _
    rw [keptV_apply f h hh, sitofp_ite]
  have hw : weightsV g (sitofp .f32 (keptV h (locsV h))) (ix2 r e) = gateSum f (fun r e => g (ix2 r e)) r * ind (kept f r e) := by
    generalize sitofp (F := Ideal) .f32 (keptV h (locsV h)) = k at hk
    pointwise [weightsV, hk]
    rfl
  have hs : slotHotV (slotsV (locsV h) (keptV h (locsV h))) (ix2 r c) = ind (c.val = slot f r) := by
    have hv := slotsV_apply f h hh r
    generalize slotsV (locsV h) (keptV h (locsV h)) = v at hv
    have hl := slot_lt f r
    pointwise [slotHotV, hv]
    rw [cmpi_eq (by omega) (by omega), uitofp_bool]
    exact if_congr eq_comm rfl rfl
  generalize weightsV g (sitofp .f32 (keptV h (locsV h))) = w at hw
  generalize slotHotV (slotsV (locsV h) (keptV h (locsV h))) = s at hs
  pointwise [combineV, hw, hs]
  rfl

/-- The loss, from the gates and the choices' one-hot rows: a sixteenth, times sixteen, times sixteen. -/
theorem lossV_apply (j : S_.Idx) : lossV g h j = auxLoss f (fun r e => g (ix2 r e)) := by
  pointwise [lossV, hh, sitofp_ite]
  rw [ofBits_4096, ofBits_16]
  unfold auxLoss
  have hc : ∀ e, ∑ r, ind (f r = e) = ((cnt f e 4096 : ℝ) : EReal) := fun e => by rw [cnt_cast, psum_all]
  simp only [hc]
  congr 1
  exact div_sixteen_mul _

omit hh in
/-- The dispatch mask is where the combine weights are not zero. -/
theorem dispatchV_apply (v : FVec Ideal S4096x16x256 .f32) (r : Fin 4096) (e : Fin 16) (c : Fin 256) :
    dispatchV v (ix3 r e c) = if v (ix3 r e c) ≠ 0 then 1#1 else 0#1 := by
  unfold dispatchV
  rw [id]
  pointwise
  by_cases hv : v (ix3 r e c) = 0 <;> simp [hv]

end Cert.Ref
-- ==== Proof.Equation.lean ====
/-
  The reference's three results as the results of the gate over the tokens' choices: when no logit is `+∞`, the gates
  have their first maximum where the logits do, so the reference chooses the experts that the kernel chooses.
-/
module

public import proofs.«01_k».proof.Proof.RefValue

@[expose] public section

set_option maxRecDepth 16384

noncomputable section

namespace Cert.Ref

open Idealize.ShloMosaic Idealize.ShloMosaic.TcCoe Idealize.SL.Sem
open Cert.ReferenceIdeal Cert.ReferenceIdeal.Gen Cert.Gate

variable (X : FVec Ideal S4096x1024 .f32) (W : FVec Ideal S16x1024 .f32)

/-- The gates of the reference. -/
def refGates : FVec Ideal S4096x16 .f32 := gatesV (logitsV X W)

/-- The reference's gates are the softmax of the logits. -/
theorem refGates_apply (r : Fin 4096) (e : Fin 16) : refGates X W (ix2 r e) = gate (logit X W r) e := by
  unfold refGates
  rw [gatesV_apply]
  simp only [logitsV_apply]

variable (hX : ∀ r e, logit X W r e ≠ ⊤)
include hX

/-- The reference's one-hot rows are those of the first maximum of the logits. -/
theorem refHot_apply (r : Fin 4096) (e : Fin 16) :
    hotV (chosenV (refGates X W)) (ix2 r e) = BitVec.ofNat 32 (if firstMax (logit X W r) = e then 1 else 0) := by
  refine hotV_apply (fun r => firstMax (logit X W r)) _ (fun r => ?_) r e
  rw [chosenV_apply]
  simp only [refGates_apply]
  exact congrArg (fun i : Fin 16 => BitVec.ofNat 32 i.val) (firstMax_gate (hX r))

/-- The reference's auxiliary loss is that of the gate. -/
theorem lossOf_eq : lossOf (refGates X W) = fun _ => auxLoss (fun r => firstMax (logit X W r)) (fun r => gate (logit X W r)) := by
  funext j
  unfold lossOf
  rw [lossV_apply _ _ _ (refHot_apply X W hX)]
  simp only [refGates_apply]

/-- One entry of the reference's combine weights. -/
theorem combineOf_apply (r : Fin 4096) (e : Fin 16) (c : Fin 256) :
    combineOf (refGates X W) (ix3 r e c) = combine (fun r => firstMax (logit X W r)) (fun r => gate (logit X W r)) r e c := by
  unfold combineOf
  rw [combineV_apply _ _ _ (refHot_apply X W hX)]
  simp only [refGates_apply]

/-- The reference's combine weights are those of the gate. -/
theorem combineOf_eq : combineOf (refGates X W)
    = fun j => combine (fun r => firstMax (logit X W r)) (fun r => gate (logit X W r)) (j 0) (j 1) (j 2) := by
  funext j
  rw [eq_ix3 j]
  exact combineOf_apply X W hX _ _ _

/-- The reference's dispatch mask is that of the gate. -/
theorem dispatchOf_eq : dispatchV (combineOf (refGates X W))
    = fun j => dispatch (fun r => firstMax (logit X W r)) (fun r => gate (logit X W r)) (j 0) (j 1) (j 2) := by
  have hp : ∀ (r : Fin 4096) (e : Fin 16) (c : Fin 256), dispatchV (combineOf (refGates X W)) (ix3 r e c)
      = dispatch (fun r => firstMax (logit X W r)) (fun r => gate (logit X W r)) r e c := fun r e c => by
    rw [dispatchV_apply, combineOf_apply X W hX]
    rfl
  funext j
  rw [eq_ix3 j]
  exact hp _ _ _

end Cert.Ref
-- ==== Proof.Precondition.lean ====
/-
  What the precondition says of the arguments: no router logit is `+∞`.
-/
module

public import proofs.«01_k».proof.Proof.Gen.Pre_no_infinite_logit
public import proofs.«01_k».proof.Proof.Words
public import Idealize.ShloMosaic.Lib.ReduceAll
public import Idealize.ShloMosaic.Lib.Pointwise

@[expose] public section

set_option maxRecDepth 16384

noncomputable section

namespace Cert.Pre

open Idealize.ShloMosaic Idealize.ShloMosaic.TcCoe Idealize.SL.Sem
open Cert.Pre_no_infinite_logit Cert.Pre_no_infinite_logit.Facts Cert.Gate

/-- The precondition: every logit is below `+∞`. -/
theorem logit_ne_top (X : FVec Ideal S4096x1024 .f32) (W : FVec Ideal S16x1024 .f32)
    (h : fn (F := Ideal) X W = fun _ => 1#1) (r : Fin 4096) (e : Fin 16) : logit X W r e ≠ ⊤ := by
  have h0 := congrFun h (Shape.Idx.first h_S_)
  have hr := Host.reduce_andi_all _ _ _ _ _ h0 (ix2 r e)
  have hd : Host.dotGeneral (F := Ideal) (φ₁ := .f32) (φ₂ := .f32) dot_S4096x1024_S1024x16_S4096x16_1_0_0_1_n_n none X
      (transpose S1024x16 [1, 0] W transposes_S16x1024_S1024x16_1_0) (ix2 r e) = logit X W r e := by
    pointwise
    rfl
  have hb : BitVec.ofBool (decide (logit X W r e < Ideal.ofBits .f32 0x7F800000#32)) = 1#1 := by
    rw [← hd]
    exact hr
  rw [ofBits_inf] at hb
  intro ht
  simp [ht] at hb

end Cert.Pre
-- ==== Proof.Values.lean ====
/-
  The value claim: from arguments without a `+∞` logit, the kernel's three results are the reference's.
-/
module

public import proofs.«01_k».proof.Defs
public import proofs.«01_k».proof.Proof.KernelArr
public import proofs.«01_k».proof.Proof.Equation
public import proofs.«01_k».proof.Proof.Precondition

@[expose] public section

set_option maxRecDepth 16384

noncomputable section

namespace Cert.Proof

open Idealize.ShloMosaic

/-- No logit of arguments that the precondition admits is `+∞`. -/
theorem no_top (m : (ℓ : Loc Cert.KernelIdeal.nD Cert.KernelIdeal.τ Cert.KernelIdeal.sig) → Buf (Elt Ideal) ℓ)
    (hpre : Cert.Pre_KernelIdeal_no_infinite_logit m) (c : Dev Cert.KernelIdeal.nD) :
    ∀ r e, Cert.Gate.logit (Cert.Point.tokens m c) (Cert.Point.weights m c) r e ≠ ⊤ :=
  Cert.Pre.logit_ne_top _ _ (hpre c)

set_option maxHeartbeats 3200000 in
/-- Kernel and reference end with equal results: the auxiliary loss, the combine weights and the dispatch mask. -/
theorem values : Cert.algebraic_KernelIdeal_ReferenceIdeal_pre_no_infinite_logit := by
  pair_intro
  · run_from Cert.KernelIdeal.Gen.run_main m g
  · hlo_run
    all_goals simp -implicitDefEqProofs only [StableHlo.TRef.toBuf, StableHlo.TRef.ofBuf, cast_cast, cast_eq]
    · show Cert.Ref.lossOf (Cert.Ref.refGates (m (c.tc.loc Cert.KernelIdeal.main_arg0)) (m (c.tc.loc Cert.KernelIdeal.main_arg1))) = _
      exact (Cert.Ref.lossOf_eq _ _ (no_top m hpre c)).trans (Cert.Arr.loss_result m c).symm
    · show Cert.Ref.combineOf (Cert.Ref.refGates (m (c.tc.loc Cert.KernelIdeal.main_arg0)) (m (c.tc.loc Cert.KernelIdeal.main_arg1))) = _
      exact (Cert.Ref.combineOf_eq _ _ (no_top m hpre c)).trans (Cert.Arr.combine_final m c).symm
    · show Cert.Ref.dispatchV (Cert.Ref.combineOf (Cert.Ref.refGates (m (c.tc.loc Cert.KernelIdeal.main_arg0)) (m (c.tc.loc Cert.KernelIdeal.main_arg1)))) = _
      exact (Cert.Ref.dispatchOf_eq _ _ (no_top m hpre c)).trans (Cert.Arr.dispatch_result m c).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_infinite_logit
public import proofs.«01_k».proof.Proof.Values
public import Idealize.ShloMosaic.Adequacy
public import Idealize.ShloMosaic.Init

/-! # The certificate: the five claims of the statement, assembled -/

open Idealize.ShloMosaic

@[expose] public section

namespace Cert.Proof

set_option maxHeartbeats 1600000 in
/-- The reference runs, leaves its arguments as they were and every counter at zero. -/
theorem frame_reference : Cert.quiescent_ReferenceIdeal := by
  intro m g _
  hlo_run
  · exact fun _ => ⟨trivial, trivial⟩
  · exact sem_eq_zero_of_no_sems (sig := Cert.ReferenceIdeal.sig) (by decide) _

/-- The claims: the three frames, the ideal program, and the values. -/
theorem claim : Cert.Claim :=
  ⟨Cert.Kernel.Gen.facts, Cert.KernelIdeal.Gen.facts, Cert.ReferenceIdeal.Gen.facts, Cert.Pre_no_infinite_logit.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, values⟩

end Cert.Proof
